-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 512]⟩ ⟨3, ![2, 1024, 512]⟩ (Layout.meshBlock [2, 2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![1024, 512]⟩ (Layout.meshBlock [2, 2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x512 : Shape := ⟨3, ![1, 1024, 512]⟩
abbrev S512 : Shape := ⟨1, ![512]⟩
abbrev S512x512 : Shape := ⟨2, ![512, 512]⟩
abbrev S8 : Shape := ⟨1, ![8]⟩
abbrev S_ : Shape := ⟨0, ![]⟩
abbrev S1x512x512 : Shape := ⟨3, ![1, 512, 512]⟩
abbrev S1 : Shape := ⟨1, ![1]⟩
abbrev S64x512 : Shape := ⟨2, ![64, 512]⟩
abbrev S1x512 : Shape := ⟨2, ![1, 512]⟩
abbrev S1x64x512 : Shape := ⟨3, ![1, 64, 512]⟩
abbrev S64 : Shape := ⟨1, ![64]⟩
abbrev S64x1 : Shape := ⟨2, ![64, 1]⟩

abbrev nBuf : Space → Nat
  | .hbm => 3
  | .vmem => 5
  | .smem => 0
  | _ => 0

abbrev bufTy : (tb : Table) → Fin (tcTables nBuf tb) → BufTy
  | .hbm, ⟨0, _⟩ => ⟨S1x1024x512, .f32⟩
  | .hbm, ⟨1, _⟩ => ⟨S512, .f32⟩
  | .hbm, ⟨2, _⟩ => ⟨S512x512, .f32⟩
  | .local _ .vmem, ⟨0, _⟩ => ⟨S1x1024x512, .f32⟩
  | .local _ .vmem, ⟨1, _⟩ => ⟨S512, .f32⟩
  | .local _ .vmem, ⟨2, _⟩ => ⟨S512x512, .f32⟩
  | .local _ .vmem, ⟨3, _⟩ => ⟨S512x512, .bf16⟩
  | .local _ .vmem, ⟨4, _⟩ => ⟨S512x512, .bf16⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_6 : BitVec 32 := 2#32
  let v13 : BitVec 32 := Scalar.muli v9 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_off1 (d0 : Dev nD) : Fin 3 → Nat :=
  let c0 : Index := 0#32
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c512_i32 : BitVec 32 := 512#32
  let v17 : BitVec 32 := Scalar.muli v9 c512_i32
  let v18 : Index := Scalar.indexCast v17
  let c0_8 : Index := 0#32
  ![0, v18.toNat, 0]
def k0_dev2 (d0 : Dev nD) : Nat :=
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_14 : BitVec 32 := 4#32
  let v25 : BitVec 32 := Scalar.muli v2 c4_i32_14
  let v26 : BitVec 32 := Scalar.addi c0_i32_15 v25
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_16 : BitVec 32 := 2#32
  let v27 : BitVec 32 := Scalar.muli v9 c2_i32_16
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v29 : BitVec 32 := Scalar.muli v8 c1_i32_17
  let v30 : BitVec 32 := Scalar.addi v28 v29
  v30.toNat
def k0_dev3 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v37 : BitVec 32 := Scalar.muli v2 c4_i32_24
  let v38 : BitVec 32 := Scalar.addi c0_i32_25 v37
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_26 : BitVec 32 := 2#32
  let v39 : BitVec 32 := Scalar.muli v9 c2_i32_26
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v41 : BitVec 32 := Scalar.muli v8 c1_i32_27
  let v42 : BitVec 32 := Scalar.addi v40 v41
  v42.toNat
def k0_dev4 (d0 : Dev nD) : Nat :=
  let c0_i32_34 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_33 : BitVec 32 := 4#32
  let v49 : BitVec 32 := Scalar.muli v2 c4_i32_33
  let v50 : BitVec 32 := Scalar.addi c0_i32_34 v49
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_35 : BitVec 32 := 2#32
  let v51 : BitVec 32 := Scalar.muli v9 c2_i32_35
  let v52 : BitVec 32 := Scalar.addi v50 v51
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v53 : BitVec 32 := Scalar.muli v8 c1_i32_36
  let v54 : BitVec 32 := Scalar.addi v52 v53
  v54.toNat
def k0_dev5 (d0 : Dev nD) : Nat :=
  let c0_i32_42 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_41 : BitVec 32 := 4#32
  let v61 : BitVec 32 := Scalar.muli v2 c4_i32_41
  let v62 : BitVec 32 := Scalar.addi c0_i32_42 v61
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_43 : BitVec 32 := 2#32
  let v63 : BitVec 32 := Scalar.muli v9 c2_i32_43
  let v64 : BitVec 32 := Scalar.addi v62 v63
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_44 : BitVec 32 := 1#32
  let v65 : BitVec 32 := Scalar.muli v8 c1_i32_44
  let v66 : BitVec 32 := Scalar.addi v64 v65
  v66.toNat
def k0_dev6 (d0 : Dev nD) : Nat :=
  let c0_i32_51 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_50 : BitVec 32 := 4#32
  let v73 : BitVec 32 := Scalar.muli v2 c4_i32_50
  let v74 : BitVec 32 := Scalar.addi c0_i32_51 v73
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_52 : BitVec 32 := 2#32
  let v75 : BitVec 32 := Scalar.muli v9 c2_i32_52
  let v76 : BitVec 32 := Scalar.addi v74 v75
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_53 : BitVec 32 := 1#32
  let v77 : BitVec 32 := Scalar.muli v8 c1_i32_53
  let v78 : BitVec 32 := Scalar.addi v76 v77
  v78.toNat
def k0_dev7 (d0 : Dev nD) : Nat :=
  let c0_i32_59 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_58 : BitVec 32 := 4#32
  let v85 : BitVec 32 := Scalar.muli v2 c4_i32_58
  let v86 : BitVec 32 := Scalar.addi c0_i32_59 v85
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_60 : BitVec 32 := 2#32
  let v87 : BitVec 32 := Scalar.muli v9 c2_i32_60
  let v88 : BitVec 32 := Scalar.addi v86 v87
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_61 : BitVec 32 := 1#32
  let v89 : BitVec 32 := Scalar.muli v8 c1_i32_61
  let v90 : BitVec 32 := Scalar.addi v88 v89
  v90.toNat
def k0_dev8 (d0 : Dev nD) : Nat :=
  let c0_i32_67 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_66 : BitVec 32 := 4#32
  let v97 : BitVec 32 := Scalar.muli v2 c4_i32_66
  let v98 : BitVec 32 := Scalar.addi c0_i32_67 v97
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_68 : BitVec 32 := 2#32
  let v99 : BitVec 32 := Scalar.muli v9 c2_i32_68
  let v100 : BitVec 32 := Scalar.addi v98 v99
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_69 : BitVec 32 := 1#32
  let v101 : BitVec 32 := Scalar.muli v8 c1_i32_69
  let v102 : BitVec 32 := Scalar.addi v100 v101
  v102.toNat
def k0_dev9 (d0 : Dev nD) : Nat :=
  let c0_i32_75 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_74 : BitVec 32 := 4#32
  let v109 : BitVec 32 := Scalar.muli v2 c4_i32_74
  let v110 : BitVec 32 := Scalar.addi c0_i32_75 v109
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_76 : BitVec 32 := 2#32
  let v111 : BitVec 32 := Scalar.muli v9 c2_i32_76
  let v112 : BitVec 32 := Scalar.addi v110 v111
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_77 : BitVec 32 := 1#32
  let v113 : BitVec 32 := Scalar.muli v8 c1_i32_77
  let v114 : BitVec 32 := Scalar.addi v112 v113
  v114.toNat
def k0_off2 (d0 : Dev nD) (c0_i32_93 : BitVec 32) : Fin 3 → Nat :=
  let c0_94 : Index := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c512_i32_92 : BitVec 32 := 512#32
  let v134 : BitVec 32 := Scalar.muli v5 c512_i32_92
  let v135 : BitVec 32 := Scalar.addi v134 c0_i32_93
  let v136 : Index := Scalar.indexCast v135
  let c0_95 : Index := 0#32
  ![0, v136.toNat, 0]
abbrev stage0_0 : Fin 1 → Memref sig .tc .vmem S1x1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x1024x512 : Shape := ⟨3, ![2, 1024, 512]⟩
abbrev S512 : Shape := ⟨1, ![512]⟩
abbrev S_ : Shape := ⟨0, ![]⟩
abbrev S1024x512 : Shape := ⟨2, ![1024, 512]⟩
abbrev S1024 : Shape := ⟨1, ![1024]⟩
abbrev S1024x1 : Shape := ⟨2, ![1024, 1]⟩
abbrev S1x512 : Shape := ⟨2, ![1, 512]⟩

abbrev nBuf : Space → Nat
  | .hbm => 20
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S512, .f32⟩
  | .hbm, ⟨2, _⟩ => ⟨S_, .f32⟩
  | .hbm, ⟨3, _⟩ => ⟨S1024x512, .f32⟩
  | .hbm, ⟨4, _⟩ => ⟨S1024x512, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x512, .f32⟩
  | .hbm, ⟨16, _⟩ => ⟨S1024x512, .f32⟩
  | .hbm, ⟨17, _⟩ => ⟨S1x512, .f32⟩
  | .hbm, ⟨18, _⟩ => ⟨S1024x512, .f32⟩
  | .hbm, ⟨19, _⟩ => ⟨S1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Protocol.lean ====
/-
# The halves of the block trade row chunks: memrefs, cells, contents, schedule

Device `c` sits at a point of a 2×2×2 mesh; its partner `peer c` differs from it in the middle coordinate only. Each
device holds a partial block of 1024 rows. It sends the 512 rows its partner is responsible for, as eight chunks of 64
rows; and it receives the eight chunks of its own 512 rows from the partner.

The protocol, as rounds (every cell has the single round 0 with the single duty `()`):

* the barrier cell of `c`, one unit, paid by the partner's signal. The payload is the partner's landing buffer, cut into
  the eight row chunks: after its barrier wait a device may write into its partner's buffer;
* the receive cell `k` of `c`, one chunk's credit, paid by the partner's `k`-th transfer. The payload is chunk `k` of the
  landing buffer of `c`, holding chunk `k` of what the partner laid out for sending;
* the send cell `k` of `c`, one chunk's credit, paid by the device's own `k`-th transfer when its source has been read.
  The payload is chunk `k` of the device's sending buffer, unchanged.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the exchange: rounds over the machine's semaphore cells, one duty name. -/
abbrev UB : Type := URounds (GSem nD τ sig) Unit
/-- The whole user ghost state: the pipeline's rounds and the exchange's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, all counters zero, any generator registers. -/
def s₀ : MemSt nD τ sig (Elt F) := ⟨m, fun _ => 0, ρ⟩

/-! ## Partners -/

set_option backward.proofsInPublic true in
/-- The device whose middle mesh coordinate is the other one. -/
def peer (c : Dev nD) : Dev nD :=
  ⟨((4 * (c.val / 4) + (c.val % 2) + 2) - 2 * ((c.val / 2) % 2)) % 8, Nat.mod_lt _ (by decide)⟩

theorem peer_peer (c : Dev nD) : peer (peer c) = c := by revert c; decide

theorem peer_val (c : Dev nD) : (peer c).val = (4 * (c.val / 4) + (c.val % 2) + 2) - 2 * ((c.val / 2) % 2) := by
  revert c; decide

/-- Partners swap: the permutation the tokens are dealt along. -/
def swap : Dev nD ≃ Dev nD := ⟨peer, peer, peer_peer, peer_peer⟩

/-! ## Memrefs, chunks, semaphores -/

abbrev xM : Memref sig .tc .vmem S1x1024x512 .f32 := Memref.whole cc0_stg0_0
abbrev gM : Memref sig .tc .vmem S512 .f32 := Memref.whole cc0_stg1_0
abbrev oM : Memref sig .tc .vmem S512x512 .f32 := Memref.whole cc0_stg2_0
abbrev tM : Memref sig .tc .vmem S512x512 .bf16 := Memref.whole cc0_scratch0
abbrev rM : Memref sig .tc .vmem S512x512 .bf16 := Memref.whole cc0_scratch1

theorem rowInb (k : Fin 8) : ∀ a, (![64 * k.val, 0] : Fin 2 → Nat) a + S64x512.size a ≤ S512x512.size a := by
  revert k; decide

/-- The 64 rows of chunk `k`. -/
abbrev rowRect (k : Fin 8) : Rect S512x512 := Rect.unit (s := S512x512) ![64 * k.val, 0] S64x512.size (rowInb k)

/-- Chunk `k` of the sending buffer, of the landing buffer. -/
abbrev txC (k : Fin 8) : Memref sig .tc .vmem S64x512 .bf16 := tM.slice (rowRect k) (fun _ => rfl)
abbrev rxC (k : Fin 8) : Memref sig .tc .vmem S64x512 .bf16 := rM.slice (rowRect k) (fun _ => rfl)

theorem semInb (k : Fin 8) : ∀ a, (![k.val] : Fin 1 → Nat) a + S1.size a ≤ S8.size a := by
  revert k; decide

/-- The barrier semaphore, and the eight send and eight receive semaphores. -/
abbrev barS : Sem sig := (SemArray.scalar (sig.barrier 0 rfl) : Sems sig S_).sem
abbrev sS (k : Fin 8) : DmaSem sig :=
  ((cc0_scratch2.slice (Rect.unit (s := S8) ![k.val] S1.size (semInb k)) : DmaSems sig S1).squeeze S_ squeezes_S1_S_ : DmaSems sig S_).sem
abbrev rS (k : Fin 8) : DmaSem sig :=
  ((cc0_scratch3.slice (Rect.unit (s := S8) ![k.val] S1.size (semInb k)) : DmaSems sig S1).squeeze S_ squeezes_S1_S_ : DmaSems sig S_).sem

/-- The names of a device's cells: the barrier, the sends, the receives. -/
abbrev CK : Type := Unit ⊕ (Fin 8 ⊕ Fin 8)

/-- The kernel's own DMA semaphores. -/
def osem : Fin 8 ⊕ Fin 8 → SemLoc sig
  | .inl k => .dma (sS k)
  | .inr k => .dma (rS k)
/-- All the semaphores of the exchange. -/
def csem : CK → SemLoc sig
  | .inl _ => .reg barS
  | .inr o => osem o

theorem csem_inj : ∀ a b : CK, csem a = csem b → a = b := by decide

abbrev kcell (ck : Dev nD × CK) : GSem nD τ sig := ((ck.1 : Thread nD τ), csem ck.2)
abbrev bar : CK := .inl ()
abbrev snd (k : Fin 8) : CK := .inr (.inl k)
abbrev rcv (k : Fin 8) : CK := .inr (.inr k)

/-- The credit of one chunk's transfer. -/
abbrev N : ℕ := (rxC 0).view.dmaCredit
theorem N_pos : 0 < N := View.dmaCredit_pos _ (by decide)

/-! ## Contents -/

/-- What the staging buffers hold once fetched: the device's partial block and the scale. -/
def xstg (c : Dev nD) : (cc0_stg0_0 : Ref sig .tc).ty.Contents (Elt F) :=
  (win0_0.blk (0 : Fin 1)).view.read (Elt F) ((s₀ m ρ).mem ((c : Thread nD τ).loc main_arg0))
def gstg (c : Dev nD) : (cc0_stg1_0 : Ref sig .tc).ty.Contents (Elt F) :=
  (win0_1.blk (0 : Fin 1)).view.read (Elt F) ((s₀ m ρ).mem ((c : Thread nD τ).loc main_arg1))

/-- The rows laid out for sending: the partner's 512 rows of the device's partial block. -/
def txbuf (c : Dev nD) : (cc0_scratch0 : Ref sig .tc).ty.Contents (Elt F) :=
  k0_pay1 ((xM.view.readAt (Elt F) (Rect.unit (s := S1x1024x512) (k0_off1 c) S1x512x512.size (k0_off1_inb c)).toLoadRect (xstg m ρ c)))

/-- The landing buffer once every chunk has arrived: what the partner laid out. -/
def rxbuf (c : Dev nD) : (cc0_scratch1 : Ref sig .tc).ty.Contents (Elt F) := txbuf m ρ (peer c)

/-- Chunk `k` of a device's sending buffer, at its share of the contents `f`; likewise the landing buffer. -/
def txPts (c : Dev nD) (k : Fin 8) (f : Buf (Elt F) ((c : Thread nD τ).loc cc0_scratch0)) : sProp 𝕄 :=
  (txC k).view.loc (c : Thread nD τ) ↦[(txC k).view.set]{fullShare} f
def rxPts (c : Dev nD) (k : Fin 8) (f : Buf (Elt F) ((c : Thread nD τ).loc cc0_scratch1)) : sProp 𝕄 :=
  (rxC k).view.loc (c : Thread nD τ) ↦[(rxC k).view.set]{fullShare} f

omit [FloatOps F] in
instance txPts_storable (c : Dev nD) (k : Fin 8) (f) : BI.Storable (upEmb : UEmb _ 𝕄) (txPts (F := F) c k f) := by
  unfold txPts; infer_instance
omit [FloatOps F] in
instance rxPts_storable (c : Dev nD) (k : Fin 8) (f) : BI.Storable (upEmb : UEmb _ 𝕄) (rxPts (F := F) c k f) := by
  unfold rxPts; infer_instance

/-! ## The eight chunks make the buffer -/

/-- An index is in chunk `k` exactly when its row is one of the chunk's 64. -/
theorem mem_rowRect (k : Fin 8) (i : S512x512.Idx) :
    i ∈ (rowRect k).set ↔ 64 * k.val ≤ (i 0).val ∧ (i 0).val < 64 * k.val + 64 := by
  rw [(rowRect k).mem_set]
  constructor
  · intro h
    obtain ⟨j, hj, e⟩ := h 0
    have hj' : j < 64 := hj
    have e' : (i 0).val = 64 * k.val + 1 * j := e
    omega
  · rintro ⟨h1, h2⟩ a
    have hk := k.isLt
    fin_cases a
    · exact ⟨(i 0).val - 64 * k.val, show _ < 64 by omega, show (i 0).val = 64 * k.val + 1 * ((i 0).val - 64 * k.val) by omega⟩
    · exact ⟨(i 1).val, (i 1).isLt, show (i 1).val = 0 + 1 * (i 1).val by omega⟩

/-- Different chunks have no index in common. -/
theorem rowRect_disjoint {k k' : Fin 8} (h : k ≠ k') : Disjoint (rowRect k).set (rowRect k').set := by
  rw [Finset.disjoint_left]
  intro i h1 h2
  rw [mem_rowRect] at h1 h2
  exact h (Fin.ext (by omega))

/-- Every index is in some chunk. -/
theorem rowRect_cover : (Finset.univ.biUnion fun k : Fin 8 => (rowRect k).set) = (Finset.univ : Finset S512x512.Idx) := by
  refine Finset.eq_univ_of_forall fun i => Finset.mem_biUnion.mpr ?_
  have hi : (i 0).val < 512 := (i 0).isLt
  refine ⟨⟨(i 0).val / 64, by omega⟩, Finset.mem_univ _, (mem_rowRect _ _).mpr ?_⟩
  show 64 * ((i 0).val / 64) ≤ (i 0).val ∧ (i 0).val < 64 * ((i 0).val / 64) + 64
  omega

theorem txC_set (k : Fin 8) : (txC k).view.set = (rowRect k).set := View.set_slice_whole cc0_scratch0 (rowRect k)
theorem rxC_set (k : Fin 8) : (rxC k).view.set = (rowRect k).set := View.set_slice_whole cc0_scratch1 (rowRect k)

omit [FloatOps F] in
theorem txPts_eq (c : Dev nD) (k : Fin 8) (f : Buf (Elt F) ((c : Thread nD τ).loc cc0_scratch0)) :
    txPts c k f = (((c : Thread nD τ).loc cc0_scratch0) ↦[(rowRect k).set]{fullShare} f : sProp 𝕄) :=
  congrArg (fun S : Finset S512x512.Idx => (((c : Thread nD τ).loc cc0_scratch0) ↦[S]{fullShare} f : sProp 𝕄)) (txC_set k)
omit [FloatOps F] in
theorem rxPts_eq (c : Dev nD) (k : Fin 8) (f : Buf (Elt F) ((c : Thread nD τ).loc cc0_scratch1)) :
    rxPts c k f = (((c : Thread nD τ).loc cc0_scratch1) ↦[(rowRect k).set]{fullShare} f : sProp 𝕄) :=
  congrArg (fun S : Finset S512x512.Idx => (((c : Thread nD τ).loc cc0_scratch1) ↦[S]{fullShare} f : sProp 𝕄)) (rxC_set k)

omit [FloatOps F] in
/-- The whole sending buffer is its eight chunks. -/
theorem tx_split (c : Dev nD) (f : Buf (Elt F) ((c : Thread nD τ).loc cc0_scratch0)) :
    (((c : Thread nD τ).loc cc0_scratch0) ↦{fullShare} f : sProp 𝕄) = bigSep Finset.univ fun k : Fin 8 => txPts c k f := by
  have h := pointsTo_biUnion (ℓ := (c : Thread nD τ).loc cc0_scratch0) (q := fullShare) (f := f) (U := UU) (Ix := Unit) (Name := ℕ) (Lvl := ℕ)
    (Finset.univ : Finset (Fin 8)) (fun k => (rowRect k).set) (fun k _ k' _ hk => rowRect_disjoint hk)
  rw [rowRect_cover] at h
  exact h.trans (bigSep_congr fun k _ => (txPts_eq c k f).symm)

omit [FloatOps F] in
/-- The whole landing buffer is its eight chunks. -/
theorem rx_split (c : Dev nD) (f : Buf (Elt F) ((c : Thread nD τ).loc cc0_scratch1)) :
    (((c : Thread nD τ).loc cc0_scratch1) ↦{fullShare} f : sProp 𝕄) = bigSep Finset.univ fun k : Fin 8 => rxPts c k f := by
  have h := pointsTo_biUnion (ℓ := (c : Thread nD τ).loc cc0_scratch1) (q := fullShare) (f := f) (U := UU) (Ix := Unit) (Name := ℕ) (Lvl := ℕ)
    (Finset.univ : Finset (Fin 8)) (fun k => (rowRect k).set) (fun k _ k' _ hk => rowRect_disjoint hk)
  rw [rowRect_cover] at h
  exact h.trans (bigSep_congr fun k _ => (rxPts_eq c k f).symm)

omit [FloatOps F] in
/-- A transfer of chunk `k` leaves the sender's rows in the receiver's chunk, whatever was there. -/
theorem land_eq (k : Fin 8) (fd : (cc0_scratch1 : Ref sig .tc).ty.Contents (Elt F)) (fs : (cc0_scratch0 : Ref sig .tc).ty.Contents (Elt F)) :
    ∀ i ∈ (rxC k).view.set, (rxC k).view.write (Elt F) fd ((txC k).view.read (Elt F) fs) Finset.univ i = fs i := by
  intro i hi
  obtain ⟨j, -, rfl⟩ := Finset.mem_map.mp hi
  rw [View.write_emb_of_mem _ _ (Finset.mem_univ _)]
  rfl

/-! ## The schedule -/

/-- What a device gets from its partner's signal: the partner's landing buffer in chunks, at any contents. -/
def barPay (c : Dev nD) : sProp 𝕄 := bigSep Finset.univ fun k : Fin 8 => iprop(∃ f, rxPts (peer c) k f)

omit [FloatOps F] in
instance barPay_storable (c : Dev nD) : BI.Storable (upEmb : UEmb _ 𝕄) (barPay (F := F) c) := by unfold barPay; infer_instance

/-- The payload of each of a device's cells. -/
def pay (c : Dev nD) : CK → sProp 𝕄
  | .inl _ => barPay c
  | .inr (.inl k) => txPts c k (txbuf m ρ c)
  | .inr (.inr k) => rxPts c k (rxbuf m ρ c)

instance pay_storable (c : Dev nD) (x : CK) : BI.Storable (upEmb : UEmb _ 𝕄) (pay (F := F) m ρ c x) := by
  rcases x with _ | k | k <;> (unfold pay; infer_instance)

open Classical in
/-- One round: every cell of the exchange has the duty `()` — one unit at a barrier cell, one chunk's credit at a DMA
    cell — with the payload `pay`. -/
def Rd : Rounds.Schedule (GSem nD τ sig) Unit 𝕄 where
  duties g r := if r = 0 ∧ g.1.2 = .tc ∧ ∃ x : CK, csem x = g.2 then {()} else ∅
  unitless _ := False
  amount g _ _ := if g.2 = .reg barS then 1 else N
  payload g _ _ := if h : ∃ x : CK, csem x = g.2 then pay m ρ g.1.1 h.choose else iprop(emp)
  amount_pos g _ _ _ := by
    by_cases h : g.2 = .reg barS
    · rw [if_pos h]; exact Nat.one_pos
    · rw [if_neg h]; exact N_pos

instance Rd_payload_storable (g : GSem nD τ sig) (r : ℕ) (d : Unit) :
    BI.Storable (upEmb : UEmb _ 𝕄) ((Rd (F := F) m ρ).payload g r d) := by
  dsimp only [Rd]; split <;> infer_instance

section Sched
variable (c : Dev nD) (x : CK)

/-- Every cell of the exchange has the one duty in round 0 … -/
theorem Rd_duties : (Rd (F := F) m ρ).duties (kcell (c, x)) 0 = {()} := by
  dsimp only [Rd]; exact if_pos ⟨rfl, rfl, x, rfl⟩
theorem Rd_mem : () ∈ (Rd (F := F) m ρ).duties (kcell (c, x)) 0 := by rw [Rd_duties]; exact Finset.mem_singleton_self _
/-- … and no duty later. -/
theorem Rd_later (g : GSem nD τ sig) : ∀ r, 1 ≤ r → (Rd (F := F) m ρ).duties g r = ∅ :=
  fun r hr => by dsimp only [Rd]; exact if_neg fun h => by omega

theorem dma_ne_bar (o : Fin 8 ⊕ Fin 8) : osem o ≠ .reg barS := by
  rcases o with k | k <;> (intro h; cases h)

theorem Rd_amount_bar : (Rd (F := F) m ρ).amount (kcell (c, bar)) 0 () = 1 := by dsimp only [Rd]; exact if_pos rfl
theorem Rd_amount_dma (o : Fin 8 ⊕ Fin 8) : (Rd (F := F) m ρ).amount (kcell (c, .inr o)) 0 () = N := by
  dsimp only [Rd]; exact if_neg (dma_ne_bar o)

theorem Rd_expect_bar : (Rd (F := F) m ρ).expect (kcell (c, bar)) 0 = 1 := by
  unfold Schedule.expect Schedule.amountOf; rw [Rd_duties, Finset.sum_singleton, Rd_amount_bar]
theorem Rd_expect_dma (o : Fin 8 ⊕ Fin 8) : (Rd (F := F) m ρ).expect (kcell (c, .inr o)) 0 = N := by
  unfold Schedule.expect Schedule.amountOf; rw [Rd_duties, Finset.sum_singleton, Rd_amount_dma]

/-- The payload of a cell, by its name. -/
theorem Rd_payload : (Rd (F := F) m ρ).payload (kcell (c, x)) 0 () = pay m ρ c x := by
  have h : ∃ y : CK, csem y = csem x := ⟨x, rfl⟩
  dsimp only [Rd]
  rw [dif_pos h]
  exact congrArg (pay m ρ c) (csem_inj _ _ h.choose_spec)

/-- All that a round of a cell hands its waiter. -/
theorem Rd_rest : bigSep ((Rd (F := F) m ρ).duties (kcell (c, x)) 0 \ ∅) (fun d => (Rd (F := F) m ρ).payload (kcell (c, x)) 0 d) = pay m ρ c x := by
  rw [Finset.sdiff_empty, Rd_duties, bigSep_singleton, Rd_payload]

end Sched

/-! ## What each core owes; the levels -/

/-- What a device still owes its partner's receive cells when `k` chunks are on their way. -/
def Orcv (c : Dev nD) (k : ℕ) : CellTallies nD τ sig Unit :=
  ∑ j ∈ Finset.univ.filter (fun j : Fin 8 => k ≤ j.val), tallyAt (kcell (peer c, rcv j)) () N

/-- What a device owes at launch: every receive cell of the partner, and its barrier. -/
def O₀ (c : Dev nD) : CellTallies nD τ sig Unit := Orcv c 0 + tallyAt (kcell (peer c, bar)) () 1

theorem Orcv_peel (c : Dev nD) (k : Fin 8) : Orcv c k.val = Orcv c (k.val + 1) + tallyAt (kcell (peer c, rcv k)) () N := by
  unfold Orcv
  have h : Finset.univ.filter (fun j : Fin 8 => k.val ≤ j.val) = insert k (Finset.univ.filter (fun j : Fin 8 => k.val + 1 ≤ j.val)) := by
    ext j
    simp only [Finset.mem_filter, Finset.mem_univ, true_and, Finset.mem_insert]
    constructor
    · intro h
      by_cases e : j = k
      · exact .inl e
      · exact .inr (by have : j.val ≠ k.val := fun e' => e (Fin.ext e'); omega)
    · rintro (rfl | h)
      · exact le_rfl
      · omega
  rw [h, Finset.sum_insert (by simp), add_comm]

theorem Orcv_done (c : Dev nD) : Orcv c 8 = 0 := by
  unfold Orcv
  rw [Finset.filter_false_of_mem fun j _ => by have := j.isLt; omega]
  rfl

/-- The level facts are about tensor cores' cells. -/
def L (g : GSem nD τ sig) : Finset Unit := if g.1.2 = .tc then {()} else ∅
open Classical in
/-- Barrier cells at level 1, receive cells at 2, send and staging cells at 0. -/
def lv (g : GSem nD τ sig) (_ : Unit) : ℕ := if g.2 = .reg barS then 1 else if ∃ k, g.2 = .dma (rS k) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (kcell (c, bar)) () = 1 := if_pos rfl
theorem lv_rcv (c : Dev nD) (k : Fin 8) : lv (kcell (c, rcv k)) () = 2 := by
  unfold lv; exact (if_neg (dma_ne_bar (.inr k))).trans (if_pos ⟨k, rfl⟩)

/-- A tally owed to receive cells is owed to one of the partner's. -/
theorem Orcv_pos {c : Dev nD} {k : ℕ} {g : GSem nD τ sig} {u : Unit} (h : 0 < Orcv c k g u) : ∃ j, g = kcell (peer c, rcv j) := by
  by_contra hn
  rw [not_exists] at hn
  unfold Orcv at h
  rw [Finset.sum_apply, Finsupp.finset_sum_apply, Finset.sum_eq_zero] at h
  · exact Nat.lt_irrefl 0 h
  · intro j _
    rw [tallyAt_apply, if_neg fun h' => hn j h'.1]

theorem O₀_pos {c : Dev nD} {g : GSem nD τ sig} {u : Unit} (h : 0 < O₀ c g u) :
    (∃ j, g = kcell (peer c, rcv j)) ∨ g = kcell (peer c, bar) := by
  unfold O₀ at h
  rw [Pi.add_apply, Finsupp.add_apply] at h
  by_cases h1 : 0 < Orcv c 0 g u
  · exact .inl (Orcv_pos h1)
  · right
    by_contra hn
    rw [tallyAt_apply, if_neg (fun h' => hn h'.1)] at h
    omega

omit [FloatOps F] in
/-- A staging cell may be waited on with everything of the launch still owed, or nothing. -/
theorem mayWait_stage (c : Dev nD) (q : DmaSem sig) (hq : ∀ k, SemLoc.dma q ≠ .dma (rS k)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | rfl <;> exact Finset.mem_singleton_self _)
      (fun p hp => by
        rw [Finset.mem_singleton.mp hp]; unfold lv
        rw [if_neg (fun h => by cases h), if_neg (fun ⟨k, hk⟩ => hq k hk)])
      (fun g u hg => by
        rcases O₀_pos hg with ⟨j, rfl⟩ | rfl
        · rw [lv_rcv]; decide
        · rw [lv_bar]; decide)
  · rw [MayWait_zero]; iintro -; iempintro

omit [FloatOps F] in
/-- At its barrier wait a device owes receive cells only, which lie above. -/
theorem mayWait_bar (c : Dev nD) :
    (levAts L lv : sProp 𝕄) ⊢ MayWait (c : Thread nD τ) (.reg barS) () (Orcv c 0) :=
  MayOwe.of_cut (L := L) (lev := lv) 1 (fun p hp => by rw [Finset.mem_singleton.mp hp, L_tc]; exact Finset.mem_singleton_self _)
    (fun g u hg => by obtain ⟨j, rfl⟩ := Orcv_pos hg; exact Finset.mem_singleton_self _)
    (fun p hp => by rw [Finset.mem_singleton.mp hp]; exact (lv_bar c).le)
    (fun g u hg => by obtain ⟨j, rfl⟩ := Orcv_pos hg; rw [lv_rcv]; decide)

end Cert.Swap
-- ==== Proof.Body.lean ====
/-
# The body of the kernel, executed once on a symbolic device

The body is one straight line: the signal to the partner, the rows laid out for sending, the barrier wait, eight
transfers, then for each chunk its receive wait, the loads, the arithmetic and the store, and last the eight send waits.
Each of the three families of eight is a lemma about an arbitrary chunk, whose state is a separating product over all
chunks: those done and those to do.
-/
module

public import proofs.«01_k».proof.Proof.Protocol

@[expose] public section

noncomputable section

namespace Cert.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The values -/

/-- The rows of the device's partial block that chunk `k` of its result adds up. -/
abbrev ownRect (c : Dev nD) (k : Fin 8) : Rect S1x1024x512 :=
  Rect.unit (s := S1x1024x512) (k0_off2 c (BitVec.ofNat 32 (64 * k.val))) S1x64x512.size (k0_off2_inb c k)

/-- The scale as the kernel loads it. -/
def gvec (c : Dev nD) : FVec F S1x512 .f32 :=
  k0_pay2 (gM.view.readAt (Elt F) (Rect.unit (s := S512) ![0] S512.size inb_S512_S512_0).toLoadRect (gstg m ρ c))

/-- Chunk `k` of the result: the kernel's arithmetic on the device's own rows and the rows that arrived. -/
def outRow (c : Dev nD) (k : Fin 8) : Vec F S64x512 .f32 :=
  k0_pay3 (gvec m ρ c) (xM.view.readAt (Elt F) (ownRect c k).toLoadRect (xstg m ρ c))
    (rM.view.readAt (Elt F) (rowRect k).toLoadRect (rxbuf m ρ c))

/-- The chunk an index of the result lies in, and its place there. -/
def chunkOf (i : S512x512.Idx) : Fin 8 := ⟨(i 0).val / 64, by have : (i 0).val < 512 := (i 0).isLt; omega⟩
def inChunk (i : S512x512.Idx) : S64x512.Idx :=
  fun a => match a with
    | ⟨0, _⟩ => (⟨(i 0).val % 64, Nat.mod_lt _ (by decide)⟩ : Fin 64)
    | ⟨1, _⟩ => (⟨(i 1).val, (i 1).isLt⟩ : Fin 512)

/-- The whole result of a device. -/
def outAt (c : Dev nD) : (cc0_stg2_0 : Ref sig .tc).ty.Contents (Elt F) := fun i => outRow m ρ c (chunkOf i) (inChunk i)

/-- The result buffer when its first `n` chunks are stored. -/
def outSt (c : Dev nD) (f : (cc0_stg2_0 : Ref sig .tc).ty.Contents (Elt F)) (n : ℕ) : (cc0_stg2_0 : Ref sig .tc).ty.Contents (Elt F) :=
  fun i => if (i 0).val < 64 * n then outAt m ρ c i else f i

theorem outSt_zero (c : Dev nD) (f) : outSt m ρ c f 0 = f := funext fun i => if_neg (by omega)
theorem outSt_all (c : Dev nD) (f) : outSt m ρ c f 8 = outAt m ρ c :=
  funext fun i => if_pos (by have : (i 0).val < 512 := (i 0).isLt; omega)

/-- Storing chunk `k` after the first `k` chunks leaves the first `k + 1` stored. -/
theorem outSt_store (c : Dev nD) (f : (cc0_stg2_0 : Ref sig .tc).ty.Contents (Elt F)) (k : Fin 8) :
    ((oM.access (rowRect k)) : View sig .tc _ _ _).write (Elt F) (outSt m ρ c f k.val) (outRow m ρ c k) Finset.univ = outSt m ρ c f (k.val + 1) := by
  funext i
  have hs : (oM.access (rowRect k) : View sig .tc _ _ _).set = (rowRect k).set := View.set_slice_whole cc0_stg2_0 (rowRect k)
  by_cases hi : i ∈ (rowRect k).set
  · have hi' : i ∈ (oM.access (rowRect k) : View sig .tc _ _ _).set := by rw [hs]; exact hi
    obtain ⟨j, -, rfl⟩ := Finset.mem_map.mp hi'
    refine (View.write_emb_of_mem (v := (oM.access (rowRect k) : View sig .tc _ _ _)) _ _ (x := j) (Finset.mem_univ _)).trans ?_
    show _ = outSt m ρ c f (k.val + 1) ((rowRect k).emb j)
    have h0 : ((rowRect k).emb j 0).val = 64 * k.val + 1 * (j 0).val := rfl
    have h1 : ((rowRect k).emb j 1).val = 0 + 1 * (j 1).val := rfl
    have hj : (j 0).val < 64 := (j 0).isLt
    unfold outSt
    rw [if_pos (by rw [h0]; omega)]
    unfold outAt
    have hc : chunkOf ((rowRect k).emb j) = k := Fin.ext (by show ((rowRect k).emb j 0).val / 64 = k.val; rw [h0]; omega)
    have hp : inChunk ((rowRect k).emb j) = j := by
      funext a
      fin_cases a
      · exact Fin.ext (by show ((rowRect k).emb j 0).val % 64 = (j 0).val; rw [h0]; omega)
      · exact Fin.ext (by show ((rowRect k).emb j 1).val = (j 1).val; rw [h1]; omega)
    rw [hc, hp]
    rfl
  · refine (View.write_of_not_mem (v := (oM.access (rowRect k) : View sig .tc _ _ _)) _ _ _ (fun h => hi (by rw [← hs]; exact h))).trans ?_
    rw [mem_rowRect] at hi
    unfold outSt
    by_cases h : (i 0).val < 64 * k.val
    · rw [if_pos h, if_pos (by omega)]
    · rw [if_neg h, if_neg (by omega)]

/-! ## The ghost state a device starts from -/

variable (K : Dev nD × CK → ℕ)

/-- The invariants of every cell of the exchange, and that every cell has reached its round. -/
def records : sProp 𝕄 :=
  iprop((bigSep Finset.univ fun ck : Dev nD × CK => cellInv ER (Rd m ρ) (K ck) (kcell ck))
    ∗ bigSep Finset.univ fun ck : Dev nD × CK => reached ER (kcell ck) 0)

instance records_persistent : BI.Persistent (records m ρ K) := by unfold records; infer_instance

theorem inv_at (ck : Dev nD × CK) : records m ρ K ⊢ cellInv ER (Rd m ρ) (K ck) (kcell ck) := by
  unfold records
  iintro ⟨#HI, -⟩
  iapply (show (bigSep Finset.univ fun ck : Dev nD × CK => (cellInv ER (Rd m ρ) (K ck) (kcell ck) : sProp 𝕄)) ⊢ cellInv ER (Rd m ρ) (K ck) (kcell ck) from
    bigSep_elim (Finset.mem_univ ck))
  iexact HI
theorem reached_at (ck : Dev nD × CK) : records m ρ K ⊢ reached ER (kcell ck) 0 := by
  unfold records
  iintro ⟨-, #HR⟩
  iapply (show (bigSep Finset.univ fun ck : Dev nD × CK => (reached ER (kcell ck) 0 : sProp 𝕄)) ⊢ reached ER (kcell ck) 0 from
    bigSep_elim (Finset.mem_univ ck))
  iexact HR

/-- The tokens of the duties a device pays: its partner's barrier, its partner's receives, its own sends. -/
def payToks (c : Dev nD) : sProp 𝕄 :=
  iprop(dutyTok ER (kcell (peer c, bar)) 0 () ∗ (bigSep Finset.univ fun j : Fin 8 => dutyTok ER (kcell (c, snd j)) 0 ())
    ∗ bigSep Finset.univ fun j : Fin 8 => dutyTok ER (kcell (peer c, rcv j)) 0 ())
/-- A device's positions in its own cells. -/
def poss (c : Dev nD) : sProp 𝕄 :=
  iprop(atPos ER (kcell (c, bar)) 0 ∅ 0 ∗ (bigSep Finset.univ fun j : Fin 8 => atPos ER (kcell (c, snd j)) 0 ∅ 0)
    ∗ bigSep Finset.univ fun j : Fin 8 => atPos ER (kcell (c, rcv j)) 0 ∅ 0)
/-- All of it. -/
def ghost (c : Dev nD) : sProp 𝕄 := iprop(records m ρ K ∗ poss c ∗ payToks c)

/-- The credit a device waits with, on its barrier and its receive cells. -/
def creds (c : Dev nD) : sProp 𝕄 :=
  iprop(cred (tallyAt (kcell (c, bar)) () 1) ∗ bigSep Finset.univ fun j : Fin 8 => cred (tallyAt (kcell (c, rcv j)) () N))

/-- What a device owes, whatever waits it has recorded. -/
def owing (c : Dev nD) (O : CellTallies nD τ sig Unit) : sProp 𝕄 := iprop(∃ W, owes (c : Thread nD τ) O W)

/-! ## The transfers -/

/-- Chunk `j` before its transfer: its rows, the partner's landing rows, the two tokens. -/
def toSend (c : Dev nD) (j : Fin 8) : sProp 𝕄 :=
  iprop(txPts c j (txbuf m ρ c) ∗ (∃ f, rxPts (peer c) j f) ∗ dutyTok ER (kcell (c, snd j)) 0 () ∗ dutyTok ER (kcell (peer c, rcv j)) 0 ())
/-- After it: the credit to wait for the source. -/
def sent (c : Dev nD) (j : Fin 8) : sProp 𝕄 := cred (tallyAt (kcell (c, snd j)) () N)

/-- The first `n` chunks on their way, the others not. -/
def SendSt (c : Dev nD) (n : ℕ) : sProp 𝕄 :=
  iprop((bigSep Finset.univ fun j : Fin 8 => if n ≤ j.val then toSend m ρ c j else sent c j) ∗ owing c (Orcv c n))

omit [FloatOps F] in
/-- A product over chunks in which chunk `k` moves from "to do" to "done". -/
theorem chunk_turn (A B : Fin 8 → sProp 𝕄) (k : Fin 8) :
    (bigSep Finset.univ fun j : Fin 8 => if k.val ≤ j.val then A j else B j)
      ⊢ iprop(A k ∗ (B k -∗ bigSep Finset.univ fun j : Fin 8 => if k.val + 1 ≤ j.val then A j else B j)) := by
  have h := bigSep_univ_update (M := 𝕄) (Φ := fun j : Fin 8 => if k.val ≤ j.val then A j else B j)
    (Ψ := fun j : Fin 8 => if k.val + 1 ≤ j.val then A j else B j) k (fun j hj => by
      have : j.val ≠ k.val := fun e => hj (Fin.ext e)
      by_cases hk : k.val ≤ j.val
      · rw [if_pos hk, if_pos (by omega)]
      · rw [if_neg hk, if_neg (by omega)])
  rw [if_pos le_rfl, if_neg (by omega)] at h
  exact h

/-- A chunk's transfer counts the same credit whichever chunk it is. -/
theorem chunk_credit (k : Fin 8) : (rxC k).view.amount (.dma (rS k)) = N := rfl

/-- The rows that land are the payload of the partner's receive cell. -/
theorem land_pay (c : Dev nD) (k : Fin 8) (fn : Buf (Elt F) ((rxC k).view.loc (peer c : Thread nD τ))) :
    ((rxC k).view.loc (peer c : Thread nD τ) ↦[(rxC k).view.set]{fullShare}
        ((rxC k).view.write (Elt F) fn ((txC k).view.read (Elt F) (txbuf m ρ c)) Finset.univ) : sProp 𝕄)
      ⊢ (Rd m ρ).payload (kcell (peer c, rcv k)) 0 () := by
  rw [Rd_payload]
  unfold pay rxPts
  refine Entails.of_eq (pointsTo_congr fun i hi => ?_)
  rw [land_eq k fn (txbuf m ρ c) i hi]
  unfold rxbuf; rw [peer_peer]

theorem src_pay (c : Dev nD) (k : Fin 8) :
    ((txC k).view.loc (c : Thread nD τ) ↦[(txC k).view.set]{fullShare} (txbuf m ρ c) : sProp 𝕄)
      ⊢ (Rd m ρ).payload (kcell (c, snd k)) 0 () := by
  rw [Rd_payload]
  unfold pay txPts
  exact BI.Entails.refl _

/-- The transfer of chunk `k` to the partner, with the resources spelt out. -/
theorem wp_send_raw (c : Dev nD) (k : Fin 8)
    {hsc : (rxC k : Memref sig (Dev.tc (peer c) : Thread nD τ).2.kind .vmem S64x512 .bf16).view.ref.isScScratch = false}
    {hsrc : (txC k).view.WordExact} {hdst : (rxC k).view.WordExact}
    {hsem : DmaTarget.Typed .vmem (.dma (rS k)) (.remote (Dev.tc (peer c) : Thread nD τ) (rxC k) (.dma (sS k)) hsc)}
    {α : Type} {Q : α → sProp 𝕄} {kt : PUnit → Prog (TpuEff nD τ sig (Elt F) Λ₀ .tc) α}
    (fn : Buf (Elt F) ((rxC k).view.loc (peer c : Thread nD τ))) (W : Waits sig Unit) :
    iprop(cellInv ER (Rd m ρ) (K (c, snd k)) (kcell (c, snd k)) ∗ cellInv ER (Rd m ρ) (K (peer c, rcv k)) (kcell (peer c, rcv k))
        ∗ ((txC k).view.loc (c : Thread nD τ) ↦[(txC k).view.set]{fullShare} (txbuf m ρ c))
        ∗ ((rxC k).view.loc (peer c : Thread nD τ) ↦[(rxC k).view.set]{fullShare} fn)
        ∗ owes (c : Thread nD τ) (Orcv c k.val) W
        ∗ dutyTok ER (kcell (c, snd k)) 0 () ∗ reached ER (kcell (c, snd k)) 0
        ∗ dutyTok ER (kcell (peer c, rcv k)) 0 () ∗ reached ER (kcell (peer c, rcv k)) 0)
      ⊢ iprop(((cred (tallyAt (kcell (c, snd k)) () N) ∗ owes (c : Thread nD τ) (Orcv c (k.val + 1)) W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (txC k) (.remote (Dev.tc (peer c) : Thread nD τ) (rxC k) (.dma (sS k)) hsc) (.dma (rS k)) hsrc hdst hsem) kt) Q) := by
  exact Rounds.wp_send_pointsTo 𝒱₀ ER (Rd m ρ) (c : Thread nD τ) none (c' := (peer c : Thread nD τ)) (src := txC k) (dst := rxC k) (q := fullShare) (sS := .dma (sS k)) (sem := .dma (rS k)) (κ₁ := K (c, snd k)) (κ₂ := K (peer c, rcv k))
    (r₁ := 0) (r₂ := 0) (d₁ := ()) (d₂ := ()) (fs := txbuf m ρ c) (fd := fn) (Rd_mem m ρ c (snd k)) (Rd_mem m ρ (peer c) (rcv k))
    () () N (chunk_credit k) (Rd_amount_dma m ρ c (.inl k)) (Rd_amount_dma m ρ (peer c) (.inr k)) (Orcv c (k.val + 1)) (Orcv_peel c k) (W := W)
    (src_pay m ρ c k) (land_pay m ρ c k fn)

/-- The transfer of chunk `k`, addressed to a device that is the partner. -/
theorem wp_send_chunk (c n : Dev nD) (hn : n = peer c) (k : Fin 8)
    {hsc : (rxC k : Memref sig (Dev.tc n : Thread nD τ).2.kind .vmem S64x512 .bf16).view.ref.isScScratch = false}
    {hsrc : (txC k).view.WordExact} {hdst : (rxC k).view.WordExact}
    {hsem : DmaTarget.Typed .vmem (.dma (rS k)) (.remote (Dev.tc n : Thread nD τ) (rxC k) (.dma (sS k)) hsc)}
    {α : Type} {Q : α → sProp 𝕄} {kt : PUnit → Prog (TpuEff nD τ sig (Elt F) Λ₀ .tc) α} :
    iprop(records m ρ K ∗ SendSt m ρ c k.val)
      ⊢ iprop((SendSt m ρ c (k.val + 1) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (txC k) (.remote (Dev.tc n : Thread nD τ) (rxC k) (.dma (sS k)) hsc) (.dma (rS k)) hsrc hdst hsem) kt) Q) := by
  subst hn
  unfold SendSt owing
  iintro ⟨#HR, Hall, ⟨%W, HO⟩⟩ Hk
  ihave Hall := (chunk_turn (toSend m ρ c) (sent c) k) $$ Hall
  icases Hall with ⟨Hs, Hback⟩
  unfold toSend
  icases Hs with ⟨Hx, ⟨%fn, Hr⟩, Ht1, Ht2⟩
  unfold txPts rxPts
  iapply (wp_send_raw m ρ K c k fn W) $$ [Hx Hr HO Ht1 Ht2]
  · isplitr; · iapply (inv_at m ρ K (c, snd k)); iexact HR
    isplitr; · iapply (inv_at m ρ K (peer c, rcv k)); iexact HR
    isplitl [Hx]; · iexact Hx
    isplitl [Hr]; · iexact Hr
    isplitl [HO]; · iexact HO
    isplitl [Ht1]; · iexact Ht1
    isplitr; · iapply (reached_at m ρ K (c, snd k)); iexact HR
    isplitl [Ht2]; · iexact Ht2
    iapply (reached_at m ρ K (peer c, rcv k)); iexact HR
  iintro ⟨Hc, HO⟩
  iapply Hk
  isplitl [Hc Hback]
  · iapply Hback; unfold sent; iexact Hc
  · iexists W; iexact HO

/-! ## The waits on a DMA cell -/

/-- A device owing nothing waits for the round of one of its DMA cells with the credit of a chunk: it gets the payload,
    and the cell closes at zero. -/
theorem wp_wait_cell (c : Dev nD) (o : Fin 8 ⊕ Fin 8) {w : TpuEff nD τ sig (Elt F) Λ₀ (c : Thread nD τ).2 PUnit}
    (hw : ∀ Q : PUnit → sProp 𝕄, wpE (defs₀ (F := F)) 𝒱₀ (c : Thread nD τ) none Set.univ w Q = waitSpec (c : Thread nD τ) Set.univ (csem (.inr o)) N Q)
    {α : Type} {Q : α → sProp 𝕄} {kt : PUnit → Prog (TpuEff nD τ sig (Elt F) Λ₀ .tc) α} :
    iprop(records m ρ K ∗ owing c 0 ∗ cred (tallyAt (kcell (c, .inr o)) () N) ∗ atPos ER (kcell (c, .inr o)) 0 ∅ 0)
      ⊢ iprop(((owing c 0 ∗ pay m ρ c (.inr o) ∗ semVal (kcell (c, .inr o)) 0) -∗ wp frame (wpE (defs₀ (F := F)) 𝒱₀ (c : Thread nD τ) none) Set.univ (kt ⟨⟩) Q)
          -∗ wp frame (wpE (defs₀ (F := F)) 𝒱₀ (c : Thread nD τ) none) Set.univ (.op w kt) Q) := by
  unfold owing
  iintro ⟨#HR, ⟨%W, HO⟩, Hc, Ha⟩ Hk
  iapply (Rounds.wp_wait_rest_token 𝒱₀ ER (Rd m ρ) (c : Thread nD τ) none (κ := K (c, .inr o))
      hw (Set.mem_univ _) () (O := 0) (W := W) (R := 0) (m := 0) (T := ∅)
      (by rw [Nat.zero_add]; exact (Rd_expect_dma m ρ c o).symm)) $$ [Hc HO Ha]
  · isplitr; · iapply (inv_at m ρ K (c, .inr o)); iexact HR
    isplitl [Hc]; · iexact Hc
    isplitl [HO]; · iexact HO
    isplitr; · rw [MayWait_zero]; iempintro
    iexact Ha
  iintro ⟨HO, Ha, -, Hpay⟩
  ihave Hp := (Entails.of_eq (Rd_rest m ρ c (.inr o))) $$ Hpay
  imod (Rounds.cell_close ER (Rd m ρ) (Set.mem_univ (K (c, .inr o))) (fun h => h) (R := 0 + 1) (Rd_later m ρ (kcell (c, .inr o)))) $$ [Ha] with Hz
  · isplitr; · iapply (inv_at m ρ K (c, .inr o)); iexact HR
    iexact Ha
  iapply Hk
  isplitl [HO]; · iexists _; iexact HO
  isplitl [Hp]; · iexact Hp
  iexact Hz

/-- What the two DMA waits are, as waits for a chunk's credit on a named cell. -/
theorem wait_rcv (c : Dev nD) (k : Fin 8) {hsrc : (txC k).view.WordExact} {hdst : (rxC k).view.WordExact} (Q : PUnit → sProp 𝕄) :
    wpE (defs₀ (F := F)) 𝒱₀ (c : Thread nD τ) none Set.univ (.waitDma2 (rS k) (txC k) (rxC k) hsrc hdst) Q
      = waitSpec (c : Thread nD τ) Set.univ (csem (rcv k)) N Q :=
  wpE_waitDma2_eq (src := txC k) (dst := rxC k) 𝒱₀ (c : Thread nD τ) none Set.univ Q
theorem wait_snd (c : Dev nD) (k : Fin 8) {hsrc : (rxC k).view.WordExact} {hdst : (txC k).view.WordExact} (Q : PUnit → sProp 𝕄) :
    wpE (defs₀ (F := F)) 𝒱₀ (c : Thread nD τ) none Set.univ (.waitDma2 (sS k) (rxC k) (txC k) hsrc hdst) Q
      = waitSpec (c : Thread nD τ) Set.univ (csem (snd k)) N Q :=
  wpE_waitDma2_eq (src := rxC k) (dst := txC k) 𝒱₀ (c : Thread nD τ) none Set.univ Q

/-! ## A chunk of the result -/

/-- Chunk `j` before its receive wait, and after it: its rows have arrived and its cell is closed. -/
def toRecv (c : Dev nD) (j : Fin 8) : sProp 𝕄 :=
  iprop(cred (tallyAt (kcell (c, rcv j)) () N) ∗ atPos ER (kcell (c, rcv j)) 0 ∅ 0)
def recvd (c : Dev nD) (j : Fin 8) : sProp 𝕄 := iprop(rxPts c j (rxbuf m ρ c) ∗ semVal (kcell (c, rcv j)) 0)

/-- The partial block as fetched, whole; the result buffer at the contents `f`. -/
def xPts (c : Dev nD) : sProp 𝕄 := ((c : Thread nD τ).loc cc0_stg0_0) ↦{fullShare} xstg m ρ c
def oPts (c : Dev nD) (f : Buf (Elt F) ((c : Thread nD τ).loc cc0_stg2_0)) : sProp 𝕄 := ((c : Thread nD τ).loc cc0_stg2_0) ↦{fullShare} f

/-- The first `n` chunks of the result computed and stored. -/
def RecvSt (c : Dev nD) (f : Buf (Elt F) ((c : Thread nD τ).loc cc0_stg2_0)) (n : ℕ) : sProp 𝕄 :=
  iprop((bigSep Finset.univ fun j : Fin 8 => if n ≤ j.val then toRecv c j else recvd m ρ c j) ∗ owing c 0 ∗ xPts m ρ c ∗ oPts c (outSt m ρ c f n))

/-- Loading the rows of chunk `k` from the landing buffer touches the chunk only. -/
theorem rx_inside (k : Fin 8) : rM.view.setOn (rowRect k).toLoadRect.set ⊆ (rxC k).view.set :=
  (View.set_slice rM.view (rowRect k)).symm.subset

/-- Chunk `k` of the result: its wait, the three loads and the store. -/
theorem wp_recv_chunk (c : Dev nD) (f : Buf (Elt F) ((c : Thread nD τ).loc cc0_stg2_0)) (k : Fin 8)
    {hsrc : (txC k).view.WordExact} {hdst : (rxC k).view.WordExact}
    {l0 : xM.view.LoadsAt (ownRect c k).toLoadRect} {l1 : rM.view.LoadsAt (rowRect k).toLoadRect} {l2 : oM.view.LoadsAt (rowRect k).toLoadRect}
    {hst : (oM.access (rowRect k)).Stores Finset.univ} {hmk}
    (py : Vec F S1x64x512 .f32 → Vec F S64x512 .bf16 → Vec F S64x512 .f32) (hpy : py = k0_pay3 (gvec m ρ c))
    {α : Type} {Q : α → sProp 𝕄} {kt : PUnit → Prog (TpuEff nD τ sig (Elt F) Λ₀ .tc) α} :
    iprop(records m ρ K ∗ RecvSt m ρ c f k.val)
      ⊢ iprop((RecvSt m ρ c f (k.val + 1) -∗ wp frame (wpE (defs₀ (F := F)) 𝒱₀ (c : Thread nD τ) none) Set.univ (kt ⟨⟩) Q)
          -∗ wp frame (wpE (defs₀ (F := F)) 𝒱₀ (c : Thread nD τ) none) Set.univ
              (.op (.waitDma2 (rS k) (txC k) (rxC k) hsrc hdst) fun _ =>
                .op (.load xM (ownRect c k).toLoadRect l0) fun v =>
                  .op (.load rM (rowRect k).toLoadRect l1) fun w =>
                    .op (.load oM (rowRect k).toLoadRect l2) fun _ =>
                      .op (.store oM (rowRect k) (py v w) Finset.univ hst hmk) kt) Q) := by
  subst hpy
  unfold RecvSt
  iintro ⟨#HR, Hall, HO, Hx, Hout⟩ Hk
  ihave Hall := (chunk_turn (toRecv c) (recvd m ρ c) k) $$ Hall
  icases Hall with ⟨Hs, Hback⟩
  unfold toRecv
  icases Hs with ⟨Hc, Ha⟩
  iapply (wp_wait_cell m ρ K c (.inr k) (wait_rcv c k)) $$ [HO Hc Ha]
  · isplitr; · iexact HR
    isplitl [HO]; · iexact HO
    isplitl [Hc] <;> iassumption
  iintro ⟨HO, Hp, Hz⟩
  unfold pay rxPts xPts oPts
  iapply (wp_load 𝒱₀ (c : Thread nD τ) none Set.univ (m := xM) (Finset.subset_univ _)) $$ Hx; iintro Hx
  iapply (wp_load 𝒱₀ (c : Thread nD τ) none Set.univ (m := rM) (rx_inside k)) $$ Hp; iintro Hp
  iapply (wp_load 𝒱₀ (c : Thread nD τ) none Set.univ (m := oM) (Finset.subset_univ _)) $$ Hout; iintro Hout
  iapply (wp_store 𝒱₀ (c : Thread nD τ) none Set.univ (m := oM) (r := rowRect k) (Mk := Finset.univ) (Finset.subset_univ _)) $$ Hout; iintro Hout
  iapply Hk
  isplitl [Hp Hz Hback]
  · iapply Hback; unfold recvd rxPts
    isplitl [Hp] <;> iassumption
  isplitl [HO]; · iexact HO
  isplitl [Hx]; · iexact Hx
  have e := outSt_store m ρ c f k
  unfold outRow at e
  rw [← e]
  iexact Hout

/-! ## The send waits -/

/-- Chunk `j` before its send wait, and after it: its rows are back and its cell is closed. -/
def toDrain (c : Dev nD) (j : Fin 8) : sProp 𝕄 := iprop(sent c j ∗ atPos ER (kcell (c, snd j)) 0 ∅ 0)
def drained (c : Dev nD) (j : Fin 8) : sProp 𝕄 := iprop(txPts c j (txbuf m ρ c) ∗ semVal (kcell (c, snd j)) 0)

/-- The first `n` sends waited for. -/
def DrainSt (c : Dev nD) (n : ℕ) : sProp 𝕄 :=
  iprop((bigSep Finset.univ fun j : Fin 8 => if n ≤ j.val then toDrain c j else drained m ρ c j) ∗ owing c 0)

/-- The send wait of chunk `k`. -/
theorem wp_drain_chunk (c : Dev nD) (k : Fin 8)
    {hsrc : (rxC k).view.WordExact} {hdst : (txC k).view.WordExact}
    {α : Type} {Q : α → sProp 𝕄} {kt : PUnit → Prog (TpuEff nD τ sig (Elt F) Λ₀ .tc) α} :
    iprop(records m ρ K ∗ DrainSt m ρ c k.val)
      ⊢ iprop((DrainSt m ρ c (k.val + 1) -∗ wp frame (wpE (defs₀ (F := F)) 𝒱₀ (c : Thread nD τ) none) Set.univ (kt ⟨⟩) Q)
          -∗ wp frame (wpE (defs₀ (F := F)) 𝒱₀ (c : Thread nD τ) none) Set.univ
              (.op (.waitDma2 (sS k) (rxC k) (txC k) hsrc hdst) kt) Q) := by
  unfold DrainSt
  iintro ⟨#HR, Hall, HO⟩ Hk
  ihave Hall := (chunk_turn (toDrain c) (drained m ρ c) k) $$ Hall
  icases Hall with ⟨Hs, Hback⟩
  unfold toDrain sent
  icases Hs with ⟨Hc, Ha⟩
  iapply (wp_wait_cell m ρ K c (.inl k) (wait_snd c k)) $$ [HO Hc Ha]
  · isplitr; · iexact HR
    isplitl [HO]; · iexact HO
    isplitl [Hc] <;> iassumption
  iintro ⟨HO, Hp, Hz⟩
  iapply Hk
  isplitl [Hp Hz Hback]
  · iapply Hback; unfold drained pay
    isplitl [Hp] <;> iassumption
  iexact HO

end Cert.Swap
-- ==== Proof.Whole.lean ====
/-
# The whole body, from what a device holds at launch to its result

The straight line of the body is taken apart into its effects and met one after the other by the chunk lemmas of `Body`.
-/
module

public import proofs.«01_k».proof.Proof.Body
public import proofs.«01_k».proof.Proof.Gen.KernelIdeal.Points

@[expose] public section

noncomputable section

namespace Cert.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- The two scratch buffers of a device, at any contents. -/
def scratch (c : Dev nD) : sProp 𝕄 :=
  iprop((∃ f, ((c : Thread nD τ).loc cc0_scratch0) ↦{fullShare} f) ∗ (∃ f, ((c : Thread nD τ).loc cc0_scratch1) ↦{fullShare} f))

/-- What a device's body starts from besides its buffers. -/
def start (c : Dev nD) : sProp 𝕄 := iprop((∃ K, ghost m ρ K c) ∗ creds c ∗ levAts L lv)

/-- The device's cells, all closed at zero. -/
def zeros (c : Dev nD) : sProp 𝕄 :=
  iprop(semVal (kcell (c, bar)) 0 ∗ (bigSep Finset.univ fun j : Fin 8 => semVal (kcell (c, snd j)) 0)
    ∗ bigSep Finset.univ fun j : Fin 8 => semVal (kcell (c, rcv j)) 0)

def Φ₀ (c : Dev nD) : sProp 𝕄 := iprop(start m ρ c ∗ scratch c)
def Φ₁ (c : Dev nD) : sProp 𝕄 := iprop(scratch (F := F) c ∗ zeros c)

/-- The proof data of the one pipeline: arrays at their launch contents, the staging buffers' contents after the point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => gstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

variable (K : Dev nD × CK → ℕ)

omit [FloatOps F] in
theorem zero2 : (![0, 0] : Fin 2 → Nat) = fun _ => 0 := funext fun a => by fin_cases a <;> rfl

omit [FloatOps F] in
/-- A store over the whole sending buffer replaces its contents. -/
theorem write_tx (f w : (cc0_scratch0 : Ref sig .tc).ty.Contents (Elt F)) :
    ((tM.access (Rect.unit (s := S512x512) ![0, 0] S512x512.size inb_S512x512_S512x512_0_0)) : View sig .tc _ _ _).write (Elt F) f w Finset.univ = w :=
  Memref.write_access_unit_zero_univ (Elt F) cc0_scratch0 zero2 _ f w

/-- A staging buffer, whole, at the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ creds c ∗ levAts L lv ∗ scratch c)
    ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ
    ∗ stg c cc0_stg0_0 (xstg m ρ c) ∗ stg c cc0_stg1_0 (gstg m ρ c) ∗ stg c cc0_stg2_0 (outAt m ρ c))

theorem dev_eq (c n : Dev nD) (h : n.val = (4 * (c.val / 4) + (c.val % 2) + 2) - 2 * ((c.val / 2) % 2)) : n = peer c :=
  Fin.ext (h.trans (peer_val c).symm)

/-- The landing buffer in chunks is what the partner's barrier cell asks for. -/
theorem give_rx (c : Dev nD) (f : Buf (Elt F) ((c : Thread nD τ).loc cc0_scratch1)) :
    (bigSep Finset.univ fun k : Fin 8 => (rxPts c k f : sProp 𝕄)) ⊢ (Rd m ρ).payload ((peer c : Thread nD τ), .reg barS) 0 () := by
  rw [show ((peer c : Thread nD τ), SemLoc.reg barS) = kcell (peer c, bar) from rfl, Rd_payload]
  unfold pay barPay
  rw [peer_peer]
  exact bigSep_mono fun k _ => show (rxPts c k f : sProp 𝕄) ⊢ iprop(∃ f', rxPts c k f') from by iintro H; iexists f; iexact H

/-- The barrier wait, as a wait for one unit on the barrier cell. -/
theorem wait_bar (c : Dev nD) (Q : PUnit → sProp 𝕄) :
    wpE (defs₀ (F := F)) 𝒱₀ (c : Thread nD τ) none Set.univ (.semWait barS (1#32).toNat) Q
      = waitSpec (c : Thread nD τ) Set.univ (csem bar) 1 Q :=
  wpE_semWait_eq 𝒱₀ (c : Thread nD τ) none Set.univ Q

omit [FloatOps F] in
/-- A product over the chunks when none is done, and when all are. -/
theorem chunks_none (A B : Fin 8 → sProp 𝕄) : (bigSep Finset.univ fun j : Fin 8 => if 0 ≤ j.val then A j else B j) = bigSep Finset.univ A :=
  bigSep_congr fun j _ => if_pos (Nat.zero_le _)
omit [FloatOps F] in
theorem chunks_all (A B : Fin 8 → sProp 𝕄) : (bigSep Finset.univ fun j : Fin 8 => if 8 ≤ j.val then A j else B j) = bigSep Finset.univ B :=
  bigSep_congr fun j _ => if_neg (by have := j.isLt; omega)

theorem send_start (c : Dev nD) (W : Waits sig Unit) :
    iprop((((c : Thread nD τ).loc cc0_scratch0) ↦{fullShare} txbuf m ρ c) ∗ pay m ρ c bar
        ∗ (bigSep Finset.univ fun j : Fin 8 => dutyTok ER (kcell (c, snd j)) 0 ())
        ∗ (bigSep Finset.univ fun j : Fin 8 => dutyTok ER (kcell (peer c, rcv j)) 0 ())
        ∗ owes (c : Thread nD τ) (Orcv c 0) W) ⊢ SendSt m ρ c 0 := by
  unfold SendSt
  rw [chunks_none, tx_split]
  unfold toSend pay barPay owing
  simp only [bigSep_sep']
  iintro ⟨H1, H2, H3, H4, HO⟩
  isplitl [H1 H2 H3 H4]
  · isplitl [H1]; · iexact H1
    isplitl [H2]; · iexact H2
    isplitl [H3] <;> iassumption
  · iexists W; iexact HO

theorem send_end (c : Dev nD) : SendSt m ρ c ((7 : Fin 8).val + 1) ⊢ iprop((bigSep Finset.univ fun j : Fin 8 => sent c j) ∗ owing c 0) := by
  rw [show (7 : Fin 8).val + 1 = 8 from rfl]
  unfold SendSt
  rw [chunks_all, Orcv_done]

theorem recv_start (c : Dev nD) (f : Buf (Elt F) ((c : Thread nD τ).loc cc0_stg2_0)) :
    iprop((bigSep Finset.univ fun j : Fin 8 => cred (tallyAt (kcell (c, rcv j)) () N))
        ∗ (bigSep Finset.univ fun j : Fin 8 => atPos ER (kcell (c, rcv j)) 0 ∅ 0)
        ∗ owing c 0 ∗ (((c : Thread nD τ).loc cc0_stg0_0) ↦{fullShare} xstg m ρ c) ∗ (((c : Thread nD τ).loc cc0_stg2_0) ↦{fullShare} f))
      ⊢ RecvSt m ρ c f 0 := by
  unfold RecvSt
  rw [chunks_none, outSt_zero]
  unfold toRecv xPts oPts
  rw [bigSep_sep']
  iintro ⟨H1, H2, H3, H4, H5⟩
  isplitl [H1 H2]
  · isplitl [H1] <;> iassumption
  isplitl [H3]; · iexact H3
  isplitl [H4] <;> iassumption

theorem recv_end (c : Dev nD) (f : Buf (Elt F) ((c : Thread nD τ).loc cc0_stg2_0)) :
    RecvSt m ρ c f ((7 : Fin 8).val + 1) ⊢ iprop((((c : Thread nD τ).loc cc0_scratch1) ↦{fullShare} rxbuf m ρ c)
        ∗ (bigSep Finset.univ fun j : Fin 8 => semVal (kcell (c, rcv j)) 0)
        ∗ owing c 0 ∗ xPts m ρ c ∗ oPts c (outAt m ρ c)) := by
  rw [show (7 : Fin 8).val + 1 = 8 from rfl]
  unfold RecvSt
  rw [chunks_all, outSt_all, rx_split]
  unfold recvd
  rw [bigSep_sep']
  iintro ⟨⟨H1, H2⟩, H3, H4, H5⟩
  isplitl [H1]; · iexact H1
  isplitl [H2]; · iexact H2
  isplitl [H3]; · iexact H3
  isplitl [H4] <;> iassumption

theorem drain_start (c : Dev nD) :
    iprop((bigSep Finset.univ fun j : Fin 8 => sent c j) ∗ (bigSep Finset.univ fun j : Fin 8 => atPos ER (kcell (c, snd j)) 0 ∅ 0) ∗ owing c 0)
      ⊢ DrainSt m ρ c 0 := by
  unfold DrainSt
  rw [chunks_none]
  unfold toDrain
  rw [bigSep_sep']
  iintro ⟨H1, H2, H3⟩
  isplitl [H1 H2]
  · isplitl [H1] <;> iassumption
  iexact H3

theorem drain_end (c : Dev nD) :
    DrainSt m ρ c ((7 : Fin 8).val + 1) ⊢ iprop((((c : Thread nD τ).loc cc0_scratch0) ↦{fullShare} txbuf m ρ c)
        ∗ (bigSep Finset.univ fun j : Fin 8 => semVal (kcell (c, snd j)) 0) ∗ owing c 0) := by
  rw [show (7 : Fin 8).val + 1 = 8 from rfl]
  unfold DrainSt
  rw [chunks_all, tx_split]
  unfold drained
  rw [bigSep_sep']
  iintro ⟨⟨H1, H2⟩, H3⟩
  isplitl [H1]; · iexact H1
  isplitl [H2] <;> iassumption

set_option maxHeartbeats 4000000 in
set_option maxRecDepth 65536 in
/-- From `bodyPre` the body runs to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel
    k0_part10_skel k0_part11_skel k0_part12_skel
  simp only [semSignalWord, semWaitWord, Prog.lift, Prog.bind_op, Prog.bind_ret, Prog.pure_eq_ret, wp_deviceId]
  unfold bodyPre ghost poss payToks creds scratch
  iintro ⟨⟨⟨⟨#HR, ⟨HaB, HaS, HaV⟩, HtB, HtS, HtV⟩, ⟨HcB, HcV⟩, #Hlev, ⟨%f0, Htx⟩, ⟨%f1, Hrx⟩⟩,
    Ho, ⟨%d0, %g0, %hg0, Hx⟩, ⟨%d1, %g1, %hg1, Hg⟩, ⟨%d2, %g2, %hg2, Hout⟩⟩, Hk⟩
  have hx : g0 = xstg m ρ c := by rw [hg0]; unfold Dat.before; rw [if_pos (fetch0_0 t0_0)]; rfl
  have hgam : g1 = gstg m ρ c := by rw [hg1]; unfold Dat.before; rw [if_pos (fetch0_1 t0_0)]; rfl
  subst hx hgam
  unfold Dat.owesAt Pipeline.owesWithin
  icases Ho with ⟨%W, %hW, HO⟩
  rw [show (dats m ρ 0 c).owed t0_0.castSucc = O₀ c from rfl]
  -- the signal to the partner hands over the landing buffer, in chunks
  simp only [dev_eq c ⟨k0_dev1 c, k0_dev1_lt c⟩ (k0_dev1_eq c)]
  iapply (Rounds.wp_signal 𝒱₀ ER (Rd m ρ) (c : Thread nD τ) none (dst := (peer c : Thread nD τ)) (κ := K (peer c, bar))
      (d := ()) (Rd_mem m ρ (peer c) bar) ((Rd_amount_bar m ρ (peer c)).trans (by decide)) () (Orcv c 0) rfl)
    $$ [HO HtB Hrx]
  · isplitr; · iapply (inv_at m ρ K (peer c, bar)); iexact HR
    isplitl [HO]; · iexact HO
    isplitl [HtB]; · iexact HtB
    isplitl [Hrx]
    · ihave Hrx := (Entails.of_eq (rx_split c f1)) $$ Hrx
      iapply (give_rx m ρ c f1); iexact Hrx
    iapply (reached_at m ρ K (peer c, bar)); iexact HR
  iintro HO
  -- the rows to send are laid out
  iapply (wp_load 𝒱₀ (c : Thread nD τ) none Set.univ (m := xM) (Finset.subset_univ _)) $$ Hx; iintro Hx
  iapply (wp_load 𝒱₀ (c : Thread nD τ) none Set.univ (m := tM) (Finset.subset_univ _)) $$ Htx; iintro Htx
  iapply (wp_store 𝒱₀ (c : Thread nD τ) none Set.univ (m := tM) (r := Rect.unit (s := S512x512) ![0, 0] S512x512.size inb_S512x512_S512x512_0_0)
    (Mk := Finset.univ) (Finset.subset_univ _)) $$ Htx; iintro Htx
  rw [write_tx]
  -- the barrier wait: the partner's landing buffer comes with it
  iapply (Rounds.wp_wait_rest_token 𝒱₀ ER (Rd m ρ) (c : Thread nD τ) none (κ := K (c, bar))
      (wait_bar c) (Set.mem_univ _) () (O := Orcv c 0) (W := W) (R := 0) (m := 0) (T := ∅)
      (by rw [Nat.zero_add]; exact (Rd_expect_bar m ρ c).symm)) $$ [HcB HO HaB]
  · isplitr; · iapply (inv_at m ρ K (c, bar)); iexact HR
    isplitl [HcB]; · iexact HcB
    isplitl [HO]; · iexact HO
    isplitr; · iapply (mayWait_bar c); iexact Hlev
    iexact HaB
  iintro ⟨HO, HaB, -, Hpay⟩
  ihave Hpr := (Entails.of_eq (Rd_rest m ρ c bar)) $$ Hpay
  imod (Rounds.cell_close ER (Rd m ρ) (Set.mem_univ (K (c, bar))) (fun h => h) (R := 0 + 1) (Rd_later m ρ (kcell (c, bar)))) $$ [HaB] with HzB
  · isplitr; · iapply (inv_at m ρ K (c, bar)); iexact HR
    iexact HaB
  -- the eight transfers
  ihave Hst := (send_start m ρ c (insert (csem bar, ()) W)) $$ [Htx Hpr HtS HtV HO]
  · isplitl [Htx]; · iexact Htx
    isplitl [Hpr]; · iexact Hpr
    isplitl [HtS]; · iexact HtS
    isplitl [HtV]; · iexact HtV
    iexact HO
  iapply (wp_send_chunk m ρ K c ⟨k0_dev2 c, k0_dev2_lt c⟩ (dev_eq c _ (k0_dev2_eq c)) 0) $$ [Hst]
  · isplitr; · iexact HR
    iexact Hst
  iintro Hst
  iapply (wp_send_chunk m ρ K c ⟨k0_dev3 c, k0_dev3_lt c⟩ (dev_eq c _ (k0_dev3_eq c)) 1) $$ [Hst]
  · isplitr; · iexact HR
    iexact Hst
  iintro Hst
  iapply (wp_send_chunk m ρ K c ⟨k0_dev4 c, k0_dev4_lt c⟩ (dev_eq c _ (k0_dev4_eq c)) 2) $$ [Hst]
  · isplitr; · iexact HR
    iexact Hst
  iintro Hst
  iapply (wp_send_chunk m ρ K c ⟨k0_dev5 c, k0_dev5_lt c⟩ (dev_eq c _ (k0_dev5_eq c)) 3) $$ [Hst]
  · isplitr; · iexact HR
    iexact Hst
  iintro Hst
  iapply (wp_send_chunk m ρ K c ⟨k0_dev6 c, k0_dev6_lt c⟩ (dev_eq c _ (k0_dev6_eq c)) 4) $$ [Hst]
  · isplitr; · iexact HR
    iexact Hst
  iintro Hst
  iapply (wp_send_chunk m ρ K c ⟨k0_dev7 c, k0_dev7_lt c⟩ (dev_eq c _ (k0_dev7_eq c)) 5) $$ [Hst]
  · isplitr; · iexact HR
    iexact Hst
  iintro Hst
  iapply (wp_send_chunk m ρ K c ⟨k0_dev8 c, k0_dev8_lt c⟩ (dev_eq c _ (k0_dev8_eq c)) 6) $$ [Hst]
  · isplitr; · iexact HR
    iexact Hst
  iintro Hst
  iapply (wp_send_chunk m ρ K c ⟨k0_dev9 c, k0_dev9_lt c⟩ (dev_eq c _ (k0_dev9_eq c)) 7) $$ [Hst]
  · isplitr; · iexact HR
    iexact Hst
  iintro Hst
  ihave Hst := (send_end m ρ c) $$ Hst
  icases Hst with ⟨HcS, HO⟩
  -- the scale
  iapply (wp_load 𝒱₀ (c : Thread nD τ) none Set.univ (m := gM) (Finset.subset_univ _)) $$ Hg; iintro Hg
  -- the eight chunks of the result
  ihave Hst := (recv_start m ρ c g2) $$ [HcV HaV HO Hx Hout]
  · isplitl [HcV]; · iexact HcV
    isplitl [HaV]; · iexact HaV
    isplitl [HO]; · iexact HO
    isplitl [Hx] <;> iassumption
  iapply (wp_recv_chunk m ρ K c g2 0 (py := k0_pay3 (gvec m ρ c)) rfl) $$ [Hst]
  · isplitr; · iexact HR
    iexact Hst
  iintro Hst
  iapply (wp_recv_chunk m ρ K c g2 1 (py := k0_pay4 (gvec m ρ c)) rfl) $$ [Hst]
  · isplitr; · iexact HR
    iexact Hst
  iintro Hst
  iapply (wp_recv_chunk m ρ K c g2 2 (py := k0_pay5 (gvec m ρ c)) rfl) $$ [Hst]
  · isplitr; · iexact HR
    iexact Hst
  iintro Hst
  iapply (wp_recv_chunk m ρ K c g2 3 (py := k0_pay6 (gvec m ρ c)) rfl) $$ [Hst]
  · isplitr; · iexact HR
    iexact Hst
  iintro Hst
  iapply (wp_recv_chunk m ρ K c g2 4 (py := k0_pay7 (gvec m ρ c)) rfl) $$ [Hst]
  · isplitr; · iexact HR
    iexact Hst
  iintro Hst
  iapply (wp_recv_chunk m ρ K c g2 5 (py := fun v w => k0_pay10 (gvec m ρ c) (k0_pay8 v) (k0_pay9 w)) rfl) $$ [Hst]
  · isplitr; · iexact HR
    iexact Hst
  iintro Hst
  iapply (wp_recv_chunk m ρ K c g2 6 (py := fun v w => k0_pay13 (gvec m ρ c) (k0_pay11 v w) (k0_pay12 v w) (Scalar.ofBits .f32 0x44000000#32)) rfl) $$ [Hst]
  · isplitr; · iexact HR
    iexact Hst
  iintro Hst
  iapply (wp_recv_chunk m ρ K c g2 7 (py := fun v w => k0_pay16 (gvec m ρ c) (k0_pay14 v w) (k0_pay15 v w)) rfl) $$ [Hst]
  · isplitr; · iexact HR
    iexact Hst
  iintro Hst
  ihave Hst := (recv_end m ρ c g2) $$ Hst
  icases Hst with ⟨Hrx, HzV, HO, Hx, Hout⟩
  -- the eight send waits
  ihave Hst := (drain_start m ρ c) $$ [HcS HaS HO]
  · isplitl [HcS]; · iexact HcS
    isplitl [HaS] <;> iassumption
  iapply (wp_drain_chunk m ρ K c 0) $$ [Hst]
  · isplitr; · iexact HR
    iexact Hst
  iintro Hst
  iapply (wp_drain_chunk m ρ K c 1) $$ [Hst]
  · isplitr; · iexact HR
    iexact Hst
  iintro Hst
  iapply (wp_drain_chunk m ρ K c 2) $$ [Hst]
  · isplitr; · iexact HR
    iexact Hst
  iintro Hst
  iapply (wp_drain_chunk m ρ K c 3) $$ [Hst]
  · isplitr; · iexact HR
    iexact Hst
  iintro Hst
  iapply (wp_drain_chunk m ρ K c 4) $$ [Hst]
  · isplitr; · iexact HR
    iexact Hst
  iintro Hst
  iapply (wp_drain_chunk m ρ K c 5) $$ [Hst]
  · isplitr; · iexact HR
    iexact Hst
  iintro Hst
  iapply (wp_drain_chunk m ρ K c 6) $$ [Hst]
  · isplitr; · iexact HR
    iexact Hst
  iintro Hst
  iapply (wp_drain_chunk m ρ K c 7) $$ [Hst]
  · isplitr; · iexact HR
    iexact Hst
  iintro Hst
  ihave Hst := (drain_end m ρ c) $$ Hst
  icases Hst with ⟨Htx, HzS, HO⟩
  unfold owing
  icases HO with ⟨%W', HO⟩
  rw [wp_ret]; imodintro
  iapply Hk
  unfold bodyPost Φ₁ zeros scratch Dat.owesAt Pipeline.owesWithin
  rw [show (dats m ρ 0 c).owed t0_0.succ = 0 from rfl]
  isplitl [Htx Hrx HzB HzS HzV]
  · isplitl [Htx Hrx]
    · isplitl [Htx]
      · iexists _; iexact Htx
      · iexists _; iexact Hrx
    isplitl [HzB]; · iexact HzB
    isplitl [HzS] <;> iassumption
  isplitl [HO]
  · iexists W'
    isplitr; · ipureintro; exact fun _ _ => Or.inl trivial
    iexact HO
  isplitl [Hx]
  · iexists _; isplitr; · (ipureintro; rfl)
    unfold xPts; iexact Hx
  isplitl [Hg]
  · iexists _; isplitr; · (ipureintro; rfl)
    iexact Hg
  iexists _; isplitr; · (ipureintro; rfl)
  unfold oPts; iexact Hout

/-- The body's start as the pipeline hands it over, the invariants' names still hidden. -/
def bodyPre' (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

set_option maxRecDepth 4000 in
/-- The body meets the pipeline's obligation on every device. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _)
      (Memref.whole cc0_scratch0) (Memref.isWhole_whole _) (Memref.whole cc0_scratch1) (Memref.isWhole_whole _) cc0_scratch2 cc0_scratch3)
    (fun _ => bodyPost m ρ c)
  unfold bodyPre' Φ₀ start
  iintro ⟨⟨⟨⟨%K, Hg⟩, Hcr, Hlev⟩, Hscr⟩, Ho, Hbufs⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev] <;> iassumption
    isplitl [Ho] <;> iassumption
  · iintro H; iexact H

end Body

end Cert.Swap
-- ==== Proof.Launch.lean ====
/-
The launch: the cells of the exchange are made from the semaphores at zero, their tokens are dealt to the partners that
use them, and the run of the whole mesh follows from the one body.
-/
module

public import proofs.«01_k».proof.Proof.Whole
public import Idealize.ShloMosaic.Lib.Pipeline.Launch
public import Idealize.ShloMosaic.Lib.Pipeline.Kit
public import Idealize.ShloMosaic.Lib.Pipeline.CollectiveSegs

@[expose] public section

noncomputable section

namespace Cert.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

/-! ## The cells and their tokens -/

/-- Cells of different names are different cells. -/
theorem kcell_injective : Function.Injective (kcell : Dev nD × CK → GSem nD τ sig) := by
  rintro ⟨c, x⟩ ⟨c', x'⟩ h
  have h1 : c = c' := congrArg (fun g : GSem nD τ sig => g.1.1) h
  have h2 : x = x' := csem_inj _ _ (congrArg Prod.snd h)
  rw [h1, h2]

/-- All cells of the exchange on the mesh. -/
def swapCells : Finset (GSem nD τ sig) := Finset.univ.map ⟨kcell, kcell_injective⟩

/-- The one duty token of a cell. -/
def tokOf (cx : Dev nD × CK) : GSem nD τ sig × ℕ × Unit := (kcell cx, 0, ())
theorem tokOf_injective : Function.Injective tokOf := fun _ _ h => kcell_injective (congrArg (fun x : GSem nD τ sig × ℕ × Unit => x.1) h)
def swapToks : Finset (GSem nD τ sig × ℕ × Unit) := Finset.univ.map ⟨tokOf, tokOf_injective⟩

/-- The ghost state the launch starts from: the pipeline's and the exchange's. -/
def u₀ : UU :=
  (initOf (Pipeline.cells cfgs cellOf_inj) (Pipeline.launchToks cfgs cellOf_inj), initOf swapCells swapToks)

/-- The duty tokens of a device's own cells. -/
def toks (c : Dev nD) : sProp 𝕄 := bigSep Finset.univ fun x : CK => dutyTok ER (kcell (c, x)) 0 ()

/-- What the launch deals a device. -/
def G (c : Dev nD) : sProp 𝕄 :=
  iprop((bigSep Finset.univ fun x : CK => roundState ER (Rd m ρ) (kcell (c, x)) 0)
    ∗ (bigSep Finset.univ fun x : CK => iprop(atPos ER (kcell (c, x)) 0 ∅ 0 ∗ reached ER (kcell (c, x)) 0)) ∗ toks c)

/-- What a device's body starts from, made of it by all devices together. -/
def G' (c : Dev nD) : sProp 𝕄 := iprop(∃ K, ghost m ρ K c)

omit [FloatOps F] in
/-- A product over a device's cells: the barrier, the sends, the receives. -/
theorem bigSep_ck (Φ : CK → sProp 𝕄) : bigSep Finset.univ Φ
    = iprop(Φ bar ∗ (bigSep Finset.univ fun j : Fin 8 => Φ (snd j)) ∗ bigSep Finset.univ fun j : Fin 8 => Φ (rcv j)) := by
  rw [bigSep_univ_sum, bigSep_univ_sum, show (Finset.univ : Finset Unit) = {()} from rfl, bigSep_singleton]; rfl

theorem fund_swap : BI.own (ER (initOf swapCells swapToks)) ⊢ (|==> bigSep Finset.univ (G m ρ) : sProp 𝕄) := by
  have hX (Φ : GSem nD τ sig → sProp 𝕄) : bigSep swapCells Φ = bigSep Finset.univ fun c : Dev nD => bigSep Finset.univ fun x : CK => Φ (kcell (c, x)) := by
    unfold swapCells; rw [bigSep_map, bigSep_univ_prod]; rfl
  have hT : bigSep swapToks (fun x => (dutyTok ER x.1 x.2.1 x.2.2 : sProp 𝕄)) = bigSep Finset.univ fun c : Dev nD => toks c := by
    unfold swapToks; rw [bigSep_map, bigSep_univ_prod]; rfl
  iintro HX
  imod (Rounds.fund ER (Rd m ρ) swapCells swapToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

omit [FloatOps F] in
/-- The send and receive semaphores are the kernel's own … -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 8 => semVal (kcell (c, snd j)) 0) ∗ bigSep Finset.univ fun j : Fin 8 => semVal (kcell (c, rcv j)) 0) := by
  unfold Pipeline.ownSems0; rw [bigSep_univ_sum]; rfl
omit [FloatOps F] in
/-- … and the barrier semaphore is the one the launch keeps for itself. -/
theorem unscopedSems0_eq (c : Dev nD) : (unscopedSems0 c : sProp 𝕄) = semVal (kcell (c, bar)) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun x : CK => semVal (kcell (c, x)) 0 : sProp 𝕄) := by
  rw [ownSems0_eq, unscopedSems0_eq, bigSep_ck]
  iintro ⟨⟨HS, HV⟩, HB⟩
  isplitl [HB]; · iexact HB
  isplitl [HS] <;> iassumption

/-- One device makes its cells' invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun x => iprop(∃ κ : ℕ, cellInv ER (Rd m ρ) κ (kcell (c, x))))
          ∗ (bigSep Finset.univ fun x => iprop(atPos ER (kcell (c, x)) 0 ∅ 0 ∗ reached ER (kcell (c, x)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun x : CK => semVal (kcell (c, x)) 0) ∗ bigSep Finset.univ fun x : CK => roundState ER (Rd m ρ) (kcell (c, x)) 0)
      ⊢ (|={Set.univ}=> bigSep Finset.univ fun x => iprop(∃ κ : ℕ, cellInv ER (Rd m ρ) κ (kcell (c, x))) : sProp 𝕄) from by
        rw [← bigSep_sep']
        exact (bigSep_mono fun x _ => (Rounds.body_intro ER (Rd m ρ) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens -/

omit [FloatOps F] in
/-- A barrier's token and the receives' go to the partner; the sends' stay. -/
theorem toks_around : (bigSep Finset.univ fun c : Dev nD => (toks c : sProp 𝕄)) ⊢ bigSep Finset.univ fun c : Dev nD => payToks c := by
  unfold toks payToks
  rw [bigSep_congr (s := Finset.univ) (fun (c : Dev nD) _ => bigSep_ck (F := F) fun x => dutyTok ER (kcell (c, x)) 0 ())]
  rw [bigSep_sep', bigSep_sep', bigSep_sep', bigSep_sep',
    bigSep_univ_equiv swap (fun c : Dev nD => (dutyTok ER (kcell (c, bar)) 0 () : sProp 𝕄)),
    bigSep_univ_equiv swap (fun c : Dev nD => (bigSep Finset.univ fun j : Fin 8 => dutyTok ER (kcell (c, rcv j)) 0 () : sProp 𝕄))]
  iintro ⟨H1, H2, H3⟩
  isplitl [H1]; · iexact H1
  isplitl [H2]; · iexact H2
  iexact H3

omit [FloatOps F] in
/-- A persistent fact may be used at every factor of a product. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CK → ℕ) (c : Dev nD) :
    iprop(records m ρ K ∗ ((bigSep Finset.univ fun x : CK => atPos ER (kcell (c, x)) 0 ∅ 0) ∗ payToks c)) ⊢ G' m ρ c := by
  rw [bigSep_ck]
  unfold G' ghost poss
  iintro ⟨HR, Hat, Htok⟩
  iexists K
  isplitl [HR]; · iexact HR
  isplitl [Hat] <;> iassumption

theorem regroup :
    (bigSep Finset.univ fun c : Dev nD => iprop((bigSep Finset.univ fun x => iprop(∃ κ : ℕ, cellInv ER (Rd m ρ) κ (kcell (c, x))))
          ∗ (bigSep Finset.univ fun x => iprop(atPos ER (kcell (c, x)) 0 ∅ 0 ∗ reached ER (kcell (c, x)) 0)) ∗ toks c) : sProp 𝕄)
      ⊢ bigSep Finset.univ (G' m ρ) := by
  rw [bigSep_sep', bigSep_sep', ← bigSep_univ_prod (fun cx : Dev nD × CK => iprop(∃ κ : ℕ, cellInv ER (Rd m ρ) κ (kcell cx))),
    bigSep_congr (s := Finset.univ) (fun (c : Dev nD) _ => bigSep_sep' Finset.univ (fun x : CK => (atPos ER (kcell (c, x)) 0 ∅ 0 : sProp 𝕄)) (fun x => reached ER (kcell (c, x)) 0)),
    bigSep_sep', ← bigSep_univ_prod (fun cx : Dev nD × CK => (reached ER (kcell cx) 0 : sProp 𝕄))]
  iintro ⟨HI, ⟨Hat, #HR⟩, Htok⟩
  ihave HK := (BI.bigSep_exists_pi Finset.univ (fun (cx : Dev nD × CK) (κ : ℕ) => (cellInv ER (Rd m ρ) κ (kcell cx) : sProp 𝕄))) $$ HI
  icases HK with ⟨%K, #HI⟩
  ihave Htk := (toks_around (F := F)) $$ Htok
  iapply (bigSep_with (R := records m ρ K) fun c _ => ghost_intro m ρ K c)
  isplitr
  · unfold records; isplitl; · iexact HI
    iexact HR
  · iapply (Entails.of_eq (bigSep_sep' Finset.univ (fun c : Dev nD => bigSep Finset.univ fun x : CK => (atPos ER (kcell (c, x)) 0 ∅ 0 : sProp 𝕄)) payToks).symm)
    isplitl [Hat]; · iexact Hat
    iexact Htk

/-- All devices together turn their semaphores at zero into what the bodies start from. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- The units a device is owed on its barrier or on a receive. -/
def due : Unit ⊕ Fin 8 → ℕ
  | .inl _ => 1
  | .inr _ => N
/-- The cells on which a device is owed units at launch. -/
def dueCell : Unit ⊕ Fin 8 → CK
  | .inl _ => bar
  | .inr j => rcv j
theorem dueCell_injective : Function.Injective dueCell := by decide

theorem Orcv_rcv (d c : Dev nD) (j : Fin 8) : Orcv d 0 (kcell (c, rcv j)) () = if d = peer c then N else 0 := by
  unfold Orcv
  rw [Finset.sum_apply, Finsupp.finset_sum_apply]
  by_cases h : d = peer c
  · rw [if_pos h, h, peer_peer, Finset.sum_eq_single_of_mem j (Finset.mem_filter.mpr ⟨Finset.mem_univ _, Nat.zero_le _⟩), tallyAt_apply, if_pos ⟨rfl, rfl⟩]
    intro j' _ hj
    rw [tallyAt_apply, if_neg]
    rintro ⟨h', -⟩
    have e : (rcv j : CK) = rcv j' := congrArg Prod.snd (kcell_injective h')
    exact hj (Sum.inr.inj (Sum.inr.inj e)).symm
  · rw [if_neg h]
    refine Finset.sum_eq_zero fun j' _ => ?_
    rw [tallyAt_apply, if_neg]
    rintro ⟨h', -⟩
    have e : c = peer d := congrArg Prod.fst (kcell_injective h')
    exact h (by rw [e, peer_peer])

theorem Orcv_bar (d c : Dev nD) : Orcv d 0 (kcell (c, bar)) () = 0 := by
  unfold Orcv
  rw [Finset.sum_apply, Finsupp.finset_sum_apply]
  refine Finset.sum_eq_zero fun j' _ => ?_
  rw [tallyAt_apply, if_neg]
  rintro ⟨h', -⟩
  have e : (bar : CK) = rcv j' := congrArg Prod.snd (kcell_injective h')
  cases e

/-- A device is owed by its partner, and by nobody else. -/
theorem O₀_due (d c : Dev nD) (y : Unit ⊕ Fin 8) : O₀ d (kcell (c, dueCell y)) () = if d = peer c then due y else 0 := by
  unfold O₀
  rw [Pi.add_apply, Finsupp.add_apply]
  rcases y with _ | j
  · show Orcv d 0 (kcell (c, bar)) () + tallyAt (kcell (peer d, bar)) () 1 (kcell (c, bar)) () = if d = peer c then 1 else 0
    rw [Orcv_bar, Nat.zero_add, tallyAt_apply]
    by_cases h : d = peer c
    · rw [if_pos h, h, peer_peer, if_pos ⟨rfl, rfl⟩]
    · rw [if_neg h, if_neg]
      rintro ⟨h', -⟩
      have e : c = peer d := congrArg Prod.fst (kcell_injective h')
      exact h (by rw [e, peer_peer])
  · show Orcv d 0 (kcell (c, rcv j)) () + tallyAt (kcell (peer d, bar)) () 1 (kcell (c, rcv j)) () = if d = peer c then N else 0
    rw [Orcv_rcv, tallyAt_apply, if_neg (c := kcell (c, rcv j) = kcell (peer d, bar) ∧ () = ()), Nat.add_zero]
    rintro ⟨h', -⟩
    have e : (rcv j : CK) = bar := congrArg Prod.snd (kcell_injective h')
    cases e

theorem launch_due (c : Dev nD) (y : Unit ⊕ Fin 8) :
    tallyOn (kcell (c, dueCell y)) (launchCredit (Pipeline.owing O₀) 0 (kcell (c, dueCell y)))
      = (tallyAt (kcell (c, dueCell y)) () (due y) : CellTallies nD τ sig Unit) := by
  unfold tallyAt; refine congrArg _ (Finsupp.ext fun u => ?_); cases u
  rw [Pipeline.launchCredit_owing, Finsupp.single_eq_same, Finset.sum_congr rfl fun d _ => O₀_due d c y,
    Finset.sum_ite_eq' Finset.univ (peer c) fun _ => due y, if_pos (Finset.mem_univ _)]

omit [FloatOps F] in
/-- The credit a device waits with is dealt at launch. -/
theorem creds_intro (c : Dev nD) : (Pipeline.launchCred O₀ c : sProp 𝕄) ⊢ creds c := by
  have hin : Function.Injective fun y : Unit ⊕ Fin 8 => csem (dueCell y) := fun a b h => dueCell_injective (csem_inj _ _ h)
  have h : (bigSep (Finset.univ.map ⟨_, hin⟩) fun sm : SemLoc sig =>
      (cred (tallyOn ((c : Thread nD τ), sm) (launchCredit (Pipeline.owing O₀) 0 ((c : Thread nD τ), sm))) : sProp 𝕄)) = creds c := by
    rw [bigSep_map, bigSep_univ_sum, show (Finset.univ : Finset Unit) = {()} from rfl, bigSep_singleton]
    unfold creds
    exact congrArg₂ (fun A B : sProp 𝕄 => iprop(A ∗ B)) (congrArg cred (launch_due c (.inl ())))
      (bigSep_congr fun j _ => congrArg cred (launch_due c (.inr j)))
  rw [← h]
  exact bigSep_subset (Finset.subset_univ _)

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch zeros
  iintro ⟨Hr, HzB, Hz⟩
  isplitl [HzB]; · iexact HzB
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What a window's array holds at the end. -/
def finalA (c : Dev nD) (w : Fin cfg0.W) : Buf (Elt F) ((cfg0.win w).arr.view.loc (c : Thread nD τ)) := (dats m ρ 0 c).arrAt w cfg0.N

/-- Every window's array of every device holds what `finalA` says. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with the counters at zero, at any floats, every fair run on the mesh ends, with every array at its
    final contents and every counter back at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_swap m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays at the end -/

/-- The device's partial block is unchanged. -/
theorem finalA_x (c : Dev nD) : finalA m ρ c (0 : Fin 3) = (s₀ m ρ).mem (win0_0.arr.view.loc (c : Thread nD τ)) :=
  (dats (F := F) m ρ 0 c).arrAt_in (0 : Fin 3) rfl _
/-- The scale is unchanged. -/
theorem finalA_g (c : Dev nD) : finalA m ρ c (1 : Fin 3) = (s₀ m ρ).mem (win0_1.arr.view.loc (c : Thread nD τ)) :=
  (dats (F := F) m ρ 0 c).arrAt_in (1 : Fin 3) rfl _

end Cert.Swap
-- ==== Proof.Math.lean ====
/-
# The arithmetic over the extended reals

One chunk of the kernel's result and the reference's result, each read at an index, and the one scalar fact between them:
multiplying by a reciprocal square root is dividing by the square root.
-/
module

public import proofs.«01_k».proof.Proof.Gen.KernelIdeal.Skeleton
public import proofs.«01_k».proof.Proof.Gen.ReferenceIdeal.Run
public import Idealize.ShloMosaic.PureOps.Ideal.Laws
public import Idealize.ShloMosaic.Lib.Pointwise

@[expose] public section

set_option maxRecDepth 16384

noncomputable section

namespace Cert.Swap

open Idealize.ShloMosaic

/-- Multiplying by a reciprocal square root is dividing by the square root, at a positive number or infinity. -/
theorem mul_rsqrt (y x : EReal) (hx : 0 < x) : y * Ideal.rsqrt x = Ideal.div y (Ideal.sqrt x) := by
  induction x with
  | bot => exact absurd hx (by simp)
  | top => simp [Ideal.div]
  | coe r =>
    have hr : 0 < r := by exact_mod_cast hx
    have hs : Real.sqrt r ≠ 0 := (Real.sqrt_pos.mpr hr).ne'
    rw [Ideal.rsqrt_coe, Ideal.sqrt_coe, if_neg hr.not_gt, if_neg hr.ne', if_neg hr.not_gt]
    unfold Ideal.div
    rw [if_neg (by exact_mod_cast hs), EReal.coe_inv]

/-- A square is not negative. -/
theorem sq_nonneg' (x : EReal) : 0 ≤ x * x := by
  rcases le_total 0 x with h | h
  · exact EReal.mul_nonneg h h
  · rw [← neg_mul_neg]; exact EReal.mul_nonneg (EReal.neg_nonneg.mpr h) (EReal.neg_nonneg.mpr h)

/-- The number of columns, as the programs spell it. -/
abbrev cols : EReal := Ideal.ofBits .f32 0x44000000#32
/-- The small number under the root. -/
abbrev small : EReal := Ideal.ofBits .f32 0x358637BD#32

/-- It is 512, … -/
theorem cols_eq : cols = ((512 : ℝ) : EReal) := by
  simp [Ideal.ofBits, Ideal.ieee, -EReal.coe_mul]; norm_num
theorem cols_pos : 0 < cols := by
  rw [cols_eq]; exact_mod_cast (by norm_num : (0 : ℝ) < 512)
/-- … and the small number is positive. -/
theorem small_pos : 0 < small := by
  have h : small = (((8796093 : ℝ) * 2 ^ (-43 : ℤ) : ℝ) : EReal) := by
    simp [Ideal.ofBits, Ideal.ieee, -EReal.coe_mul]
  rw [h]; exact EReal.coe_pos.mpr (by positivity)

/-- A row's mean square and the small number are together positive. -/
theorem under_pos {n : ℕ} (z : Fin n → EReal) : 0 < Ideal.div (∑ k, z k * z k) cols + small := by
  have h1 : 0 ≤ ∑ k, z k * z k := Finset.sum_nonneg fun k _ => sq_nonneg' (z k)
  have h2 : 0 ≤ Ideal.div (∑ k, z k * z k) cols := by
    unfold Ideal.div
    rw [if_neg cols_pos.ne']
    exact EReal.mul_nonneg h1 (EReal.inv_nonneg_of_nonneg cols_pos.le)
  exact lt_of_lt_of_le small_pos (le_add_of_nonneg_left h2)

/-- One entry of a normalised and scaled row, the way the reference writes it. -/
def normed (z : Fin 512 → EReal) (g : EReal) (l : Fin 512) : EReal :=
  Ideal.div (z l) (Ideal.sqrt (Ideal.div (∑ k, z k * z k) cols + small)) * g

section K
open Cert.KernelIdeal Cert.KernelIdeal.Gen

/-- A chunk of the kernel's result at an index. -/
theorem pay3_apply (g : FVec Ideal S1x512 .f32) (v : Vec Ideal S1x64x512 .f32) (w : Vec Ideal S64x512 .bf16) (r : Fin 64) (l : Fin 512) :
    k0_pay3 g v w (ix2 r l) = normed (fun k => v (ix3 0 r k) + w (ix2 r k)) (g (ix2 0 l)) l := by
  unfold normed
  rw [← mul_rsqrt _ _ (under_pos _)]
  pointwise [k0_pay3]

end K

section R
open Cert.ReferenceIdeal Cert.ReferenceIdeal.Gen

/-- The reference's result as a function of its arguments. -/
def refOut (X : FVec Ideal S2x1024x512 .f32) (g : FVec Ideal S512 .f32) : FVec Ideal S1024x512 .f32 :=
  mulf (Host.divf (Host.reduceAdd X (constant S_ .f32 0x00000000#32) reducesTo_S2x1024x512_S1024x512_d0 h_S_) (broadcastInDim S1024x512 ![0, 1] bcast_S1024x1_S1024x512_0_1 (Host.sqrt (addf (Host.divf (broadcastInDim S1024x1 ![0] bcast_S1024_S1024x1_0 (Host.reduceAdd (mulf (Host.reduceAdd X (constant S_ .f32 0x00000000#32) reducesTo_S2x1024x512_S1024x512_d0 h_S_) (Host.reduceAdd X (constant S_ .f32 0x00000000#32) reducesTo_S2x1024x512_S1024x512_d0 h_S_)) (constant S_ .f32 0x00000000#32) reducesTo_S1024x512_S1024_d1 h_S_)) (broadcastInDim S1024x1 ![] bcast_S_S1024x1 (constant S_ .f32 0x44000000#32))) (broadcastInDim S1024x1 ![] bcast_S_S1024x1 (constant S_ .f32 0x358637BD#32)))))) (broadcastInDim S1024x512 ![0, 1] bcast_S1x512_S1024x512_0_1 (broadcastInDim S1x512 ![1] bcast_S512_S1x512_1 g))

/-- The sum of the two partial rows. -/
def rowSum (X : FVec Ideal S2x1024x512 .f32) (i : Fin 1024) (k : Fin 512) : EReal := X (ix3 0 i k) + X (ix3 1 i k)

/-- The reference's result at an index. -/
theorem refOut_apply (X : FVec Ideal S2x1024x512 .f32) (g : FVec Ideal S512 .f32) (i : Fin 1024) (l : Fin 512) :
    refOut X g (ix2 i l) = normed (rowSum X i) (g (ix1 l)) l := by
  unfold normed rowSum
  pointwise [refOut]
  simp only [Fin.sum_univ_two]

end R

end Cert.Swap
-- ==== Proof.Value.lean ====
/-
# The kernel's result over the extended reals

Each device's result array, read at an index from the whole arrays: the device's 512 rows of what the reference computes.
-/
module

public import proofs.«01_k».proof.Proof.Launch
public import proofs.«01_k».proof.Proof.Math
public import Idealize.ShloMosaic.Lib.Layout
public import Idealize.ShloMosaic.Lib.Pipeline.ValueKit

@[expose] public section

set_option maxRecDepth 16384

noncomputable section

namespace Cert.Swap

open Cert.KernelIdeal Cert.KernelIdeal.Gen
open Idealize.ShloMosaic
open Idealize.ShloMosaic.TcCoe
open Idealize.SL Idealize.SL.Sem
open Idealize.ShloMosaic.Pipeline (Dat Cfg Window)

section Any
variable {F : FTy → Type} [FloatOps F]
variable (m : (ℓ : Loc nD τ sig) → Buf (Elt F) ℓ) (ρ : Dev nD → PrngReg)

/-- The staged partial block is the device's argument array. -/
theorem xstg_eq (c : Dev nD) : xstg m ρ c = m ((c : Thread nD τ).loc main_arg0) := by
  funext y
  show m ((c : Thread nD τ).loc main_arg0) ((win0_0.rect (0 : Fin 1)).emb y) = _
  exact congrArg (m ((c : Thread nD τ).loc main_arg0)) (funext fun a => Fin.ext (win0_0.rect_emb_val_of_index_zero (0 : Fin 1) a rfl y))

/-- The staged scale is the device's argument array. -/
theorem gstg_eq (c : Dev nD) : gstg m ρ c = m ((c : Thread nD τ).loc main_arg1) := by
  funext y
  show m ((c : Thread nD τ).loc main_arg1) ((win0_1.rect (0 : Fin 1)).emb y) = _
  exact congrArg (m ((c : Thread nD τ).loc main_arg1)) (funext fun a => Fin.ext (win0_1.rect_emb_val_of_index_zero (0 : Fin 1) a rfl y))

/-- The result array ends holding the eight chunks. -/
theorem finalA_o (c : Dev nD) : finalA m ρ c (2 : Fin 3) = outAt m ρ c := by
  refine (dats m ρ 0 c).arrAt_eq_of_covers (2 : Fin 3) (outAt m ρ c) (by decide +kernel) fun t hf y => ?_
  show outAt m ρ c y = outAt m ρ c ((win0_2.rect t).emb y)
  exact congrArg (outAt m ρ c) (funext fun a => Fin.ext (win0_2.rect_emb_val_of_index_zero t a rfl y).symm)

end Any

/-- The half of the rows a device keeps: its coordinate on the middle axis of the mesh. -/
abbrev half (c : Dev nD) : ℕ := (c.val / 2) % 2

/-- Its partner keeps the other half. -/
theorem half_peer (c : Dev nD) : half (peer c) = 1 - half c := by revert c; decide

/-- Row `r` of the half device `c` keeps, as a row of the whole array. -/
def gRow (c : Dev nD) (r : Fin 512) : Fin 1024 := ⟨512 * half c + r.val, by have := r.isLt; unfold half; omega⟩

/-- The partial array a device holds, as a block of the whole. -/
def part (c : Dev nD) : Fin 2 := ⟨half c, Nat.mod_lt _ (by decide)⟩

section V
variable (m : (ℓ : Loc nD τ sig) → Buf (Elt Ideal) ℓ) (ρ : Dev nD → PrngReg)
variable (X : FVec Ideal Cert.ReferenceIdeal.S2x1024x512 .f32) (g : FVec Ideal Cert.ReferenceIdeal.S512 .f32)

/-- What the claim says of the arguments: device `c` holds partial block `part c`, and the scale. -/
def Given : Prop := ∀ c : Dev nD,
  m ((c : Thread nD τ).loc main_arg0) = Layout.blockN ⟨3, ![1, 1024, 512]⟩ ⟨3, ![2, 1024, 512]⟩ (Layout.meshBlock [2, 2, 2] ![[1], [], []] c) X
  ∧ m ((c : Thread nD τ).loc main_arg1) = g

variable {m X g} (H : Given m X g)
include H

/-- The staged partial block at an index. -/
theorem xstg_apply (c : Dev nD) (i : Fin 1024) (l : Fin 512) : xstg m ρ c (ix3 0 i l) = X (ix3 (part c) i l) := by
  rw [xstg_eq, (H c).1, Layout.blockN_apply]
  congr 1
  funext a
  refine Fin.ext ?_
  rw [Layout.TilesN.idx_val]
  fin_cases a <;> simp [part, half, Layout.meshLin, Layout.meshCoord, Layout.cutSize]

/-- The rows a device lays out for sending, at an index: its partner's half of its own partial block. -/
theorem txbuf_apply (c : Dev nD) (r l : Fin 512) : txbuf m ρ c (ix2 r l) = X (ix3 (part c) (gRow (peer c) r) l) := by
  have h : txbuf m ρ c (ix2 r l) = xstg m ρ c ((Rect.unit (s := S1x1024x512) (k0_off1 c) S1x512x512.size (k0_off1_inb c)).emb (ix3 0 r l)) := by
    unfold txbuf
    pointwise [k0_pay1]
    rfl
  rw [h, ← xstg_apply ρ H]
  congr 1
  funext a
  refine Fin.ext ?_
  rw [ValueKit.rect_emb_unit_val]
  refine (congrArg (· + _) (congrFun (k0_off1_eq c) a)).trans ?_
  have := half_peer c
  have := r.isLt
  fin_cases a <;> simp [gRow, half] at * <;> omega

/-- The landed rows at an index: the device's own half of its partner's partial block. -/
theorem rxbuf_apply (c : Dev nD) (r l : Fin 512) : rxbuf m ρ c (ix2 r l) = X (ix3 (part (peer c)) (gRow c r) l) := by
  unfold rxbuf
  rw [txbuf_apply ρ H, peer_peer]

/-- The scale as the kernel lays it out, at an index. -/
theorem gvec_apply (c : Dev nD) (l : Fin 512) : gvec m ρ c (ix2 0 l) = g (ix1 l) := by
  have h : gvec m ρ c (ix2 0 l) = gstg m ρ c ((Rect.unit (s := S512) ![0] S512.size inb_S512_S512_0).emb (ix1 l)) := by
    unfold gvec
    pointwise [k0_pay2]
    rfl
  rw [h, gstg_eq, (H c).2]
  congr 1
  funext a
  refine Fin.ext ?_
  rw [ValueKit.rect_emb_unit_val]
  fin_cases a; simp

/-- The two partial rows are the device's own and its partner's, in one order or the other. -/
theorem sum_parts (c : Dev nD) (i : Fin 1024) (k : Fin 512) :
    X (ix3 (part c) i k) + X (ix3 (part (peer c)) i k) = rowSum X i k := by
  unfold rowSum
  have h : (part c = 0 ∧ part (peer c) = 1) ∨ (part c = 1 ∧ part (peer c) = 0) := by revert c; decide
  rcases h with ⟨h1, h2⟩ | ⟨h1, h2⟩
  · rw [h1, h2]
  · rw [h1, h2, add_comm]

/-- The device's own rows of chunk `k`, as the kernel loads them, at an index. -/
theorem own_apply (c : Dev nD) (k : Fin 8) (r : Fin 64) (l : Fin 512) (r' : Fin 512) (hr : r'.val = 64 * k.val + r.val) :
    xM.view.readAt (Elt Ideal) (ownRect c k).toLoadRect (xstg m ρ c) (ix3 0 r l) = X (ix3 (part c) (gRow c r') l) := by
  rw [← xstg_apply ρ H c]
  show xstg m ρ c ((ownRect c k).emb (ix3 0 r l)) = _
  refine congrArg (xstg m ρ c) (funext fun a => Fin.ext ?_)
  rw [ValueKit.rect_emb_unit_val]
  refine (congrArg (· + _) (congrFun (k0_off2_eq c k) a)).trans ?_
  fin_cases a <;> simp [gRow, half] <;> omega

/-- The landed rows of chunk `k`, as the kernel loads them, at an index. -/
theorem landed_apply (c : Dev nD) (k : Fin 8) (r : Fin 64) (l : Fin 512) (r' : Fin 512) (hr : r'.val = 64 * k.val + r.val) :
    rM.view.readAt (Elt Ideal) (rowRect k).toLoadRect (rxbuf m ρ c) (ix2 r l) = X (ix3 (part (peer c)) (gRow c r') l) := by
  rw [← rxbuf_apply ρ H c]
  show rxbuf m ρ c ((rowRect k).emb (ix2 r l)) = _
  refine congrArg (rxbuf m ρ c) (funext fun a => Fin.ext ?_)
  rw [ValueKit.rect_emb_unit_val]
  fin_cases a <;> simp <;> omega

/-- Chunk `k` of the result at an index. -/
theorem outRow_apply (c : Dev nD) (k : Fin 8) (r : Fin 64) (l : Fin 512) (r' : Fin 512) (hr : r'.val = 64 * k.val + r.val) :
    outRow m ρ c k (ix2 r l) = refOut X g (ix2 (gRow c r') l) := by
  unfold outRow
  rw [refOut_apply, pay3_apply, gvec_apply ρ H]
  refine congrArg (fun z => normed z _ _) (funext fun j => ?_)
  rw [own_apply ρ H c k r j r' hr, landed_apply ρ H c k r j r' hr, sum_parts H]

/-- The result at an index: the reference's, at the row the device keeps there. -/
theorem outAt_apply (c : Dev nD) (r l : Fin 512) : outAt m ρ c (ix2 r l) = refOut X g (ix2 (gRow c r) l) := by
  rw [← outRow_apply ρ H c ⟨r.val / 64, by omega⟩ ⟨r.val % 64, Nat.mod_lt _ (by decide)⟩ l r (Nat.div_add_mod _ _).symm]
  unfold outAt
  exact congrArg (outRow m ρ c _) (funext fun a => by fin_cases a <;> rfl)

/-- The whole result of a device is its block of the reference's result. -/
theorem finalA_block (c : Dev nD) : finalA m ρ c (2 : Fin 3)
    = Layout.blockN ⟨2, ![512, 512]⟩ ⟨2, ![1024, 512]⟩ (Layout.meshBlock [2, 2, 2] ![[1], []] c) (refOut X g) := by
  rw [finalA_o]
  funext i
  obtain ⟨r, l, rfl⟩ : ∃ r l : Fin 512, i = ix2 r l := ⟨i 0, i 1, by funext a; fin_cases a <;> rfl⟩
  rw [outAt_apply ρ H, Layout.blockN_apply]
  congr 1
  funext a
  refine Fin.ext ?_
  rw [Layout.TilesN.idx_val]
  fin_cases a <;> simp [gRow, half, Layout.meshLin, Layout.meshCoord, Layout.cutSize]
  exact Nat.mul_comm _ _

end V

end Cert.Swap
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- What the claims ask of a run of the kernel's arguments, from where its arrays end. -/
theorem frame_of {F : FTy → Type} [FloatOps F]
    (m : (ℓ : Loc Cert.KernelIdeal.nD Cert.KernelIdeal.τ Cert.KernelIdeal.sig) → Buf (Elt F) ℓ) (ρ : Dev Cert.KernelIdeal.nD → PrngReg)
    {r : PUnit × MemSt Cert.KernelIdeal.nD Cert.KernelIdeal.τ Cert.KernelIdeal.sig (Elt F)} (h : Cert.Swap.QC m ρ r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) :=
  ⟨(h c (0 : Fin 3)).trans (Cert.Swap.finalA_x m ρ c), (h c (1 : Fin 3)).trans (Cert.Swap.finalA_g m ρ c)⟩

/-- The kernel over the extended reals runs to the end, its arguments unchanged and every counter back at zero. -/
theorem frame_ki : Cert.quiescent_KernelIdeal := fun m ρ _ =>
  (θ_run (Cert.KernelIdeal.defs (F := Ideal)) _ _).mono (fun _ h => ⟨frame_of m ρ h.1, h.2⟩) (Cert.Swap.run_main (F := Ideal) m ρ)

/-- The same of the same text at the machine's floats, … -/
theorem frame_bits (m : (ℓ : Loc Cert.KernelIdeal.nD Cert.KernelIdeal.τ Cert.KernelIdeal.sig) → Buf (Elt Bits) ℓ) (ρ : Dev Cert.KernelIdeal.nD → PrngReg) :
    θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run (Cert.KernelIdeal.defs (F := Bits)) _ _).mono (fun _ h => ⟨frame_of m ρ h.1, h.2⟩) (Cert.Swap.run_main (F := Bits) m ρ)

set_option maxRecDepth 65536 in
set_option maxHeartbeats 4000000 in
/-- … the two programs' kernels having one table of bodies, … -/
theorem bodies_eq {F : FTy → Type} [FloatOps F] : (Cert.Kernel.defs₀ : Defs _ _ _ (Elt F) _) = Cert.KernelIdeal.defs₀ := by
  funext k ℓ a
  cases k with
  | tc =>
    obtain ⟨ℓ, hℓ⟩ := ℓ
    cases ℓ with
    | zero => exact rfl
    | succ n => omega
  | scScalar _ => rfl
  | scVector _ _ => rfl

/-- … and so one table with the pipeline's bodies added, … -/
theorem defs_eq {F : FTy → Type} [FloatOps F] : (Cert.Kernel.defs : Defs _ _ _ (Elt F) _) = Cert.KernelIdeal.defs :=
  congrArg (Pipeline.defs Cert.KernelIdeal.pcfgs) bodies_eq

/-- … which makes it the kernel's. -/
theorem frame_k : Cert.quiescent_Kernel := fun m ρ _ => by
  rw [defs_eq]
  exact frame_bits m ρ

/-- The reference, likewise: it has no counter. -/
theorem frame_ri : Cert.quiescent_ReferenceIdeal := fun m ρ _ =>
  (θ_run (Cert.ReferenceIdeal.defs (F := Ideal)) _ _).mono
    (fun r h => ⟨fun c => ⟨(h c).2.1, (h c).2.2⟩, sem_eq_zero_of_no_sems (by decide) r.2⟩)
    (Cert.ReferenceIdeal.Value.run (F := Ideal) m ρ)

/-- The kernel was read over the extended reals as it stands. -/
theorem preserves : Cert.preserves_Kernel_KernelIdeal := trivial

/-- Over the extended reals every device ends with its block of the reference's result. -/
theorem algebraic : Cert.algebraic_KernelIdeal_ReferenceIdeal := by
  intro m ρ m' ρ' _ hagree
  refine ⟨Cert.Swap.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run (Cert.KernelIdeal.defs (F := Ideal)) _ _).mono
      (fun _ h c => ⟨(h.1 c (2 : Fin 3)).trans (Cert.Swap.finalA_block ρ hagree c), frame_of m ρ h.1 c⟩)
      (Cert.Swap.run_main (F := Ideal) m ρ)
  · exact (θ_run (Cert.ReferenceIdeal.defs (F := Ideal)) _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_k, frame_ki, frame_ri, preserves, algebraic⟩

end Cert.Proof

end
